-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x2048 : Shape := ⟨2, ![16384, 2048]⟩
abbrev S512x2048 : Shape := ⟨2, ![512, 2048]⟩
abbrev S_ : Shape := ⟨0, ![]⟩

abbrev nBuf : Space → Nat
  | .hbm => 2
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩

abbrev nD : Nat := 1
abbrev τ : Topo := Topo.v7x

variable {F : FTy → Type} [FloatOps F]

abbrev grid0 : Pipeline.Grid := .none

@[reducible] def k0_t1_loop : Scf.Loop 32 :=
  let c0_i32_4 : BitVec 32 := 0#32
  let c8_i32 : BitVec 32 := 8#32
  let v4 : BitVec 32 := Scalar.addi c0_i32_4 c8_i32
  let c1_i32 : BitVec 32 := 1#32
  ⟨c0_i32_4, v4, c1_i32⟩
def k0_off1 (k0_t1 : Fin k0_t1_loop.trips) (c0_i32_16 : BitVec 32) : Fin 2 → Nat :=
  let c0_i32_15 : BitVec 32 := 0#32
  let c0_i32_4 : BitVec 32 := 0#32
  let c1_i32 : BitVec 32 := 1#32
  let arg18 : BitVec 32 := Scf.iv c0_i32_4 c1_i32 k0_t1
  let c1_i32_14 : BitVec 32 := 1#32
  let v9 : BitVec 32 := Scalar.muli arg18 c1_i32_14
  let v10 : BitVec 32 := Scalar.addi c0_i32_15 v9
  let c4_i32 : BitVec 32 := 4#32
  let v11 : BitVec 32 := Scalar.muli v10 c4_i32
  let v12 : BitVec 32 := Scalar.addi v11 c0_i32_16
  let c512_i32_28 : BitVec 32 := 512#32
  let v30 : BitVec 32 := Scalar.muli v12 c512_i32_28
  let c0_i32_29 : BitVec 32 := 0#32
  ![v30.toNat, 0]
def k0_cond2 (k0_t1 : Fin k0_t1_loop.trips) : BitVec 1 :=
  let c0_i32_15 : BitVec 32 := 0#32
  let c0_i32_4 : BitVec 32 := 0#32
  let c1_i32 : BitVec 32 := 1#32
  let arg18 : BitVec 32 := Scf.iv c0_i32_4 c1_i32 k0_t1
  let c1_i32_14 : BitVec 32 := 1#32
  let v9 : BitVec 32 := Scalar.muli arg18 c1_i32_14
  let v10 : BitVec 32 := Scalar.addi c0_i32_15 v9
  let c4_i32 : BitVec 32 := 4#32
  let v11 : BitVec 32 := Scalar.muli v10 c4_i32
  let c0_i32_16 : BitVec 32 := 0#32
  let v12 : BitVec 32 := Scalar.addi v11 c0_i32_16
  let c4_i32_30 : BitVec 32 := 4#32
  let v32 : BitVec 32 := Scalar.addi v12 c4_i32_30
  let c32_i32 : BitVec 32 := 32#32
  let v33 : BitVec 1 := Scalar.cmpi .slt v32 c32_i32
  let v34 : BitVec 32 := Scalar.extui v33
  let c0_i32_31 : BitVec 32 := 0#32
  let v35 : BitVec 1 := Scalar.cmpi .ne v34 c0_i32_31
  v35

def k0_off2 (k0_t1 : Fin k0_t1_loop.trips) : Fin 2 → Nat :=
  let c0_i32_15 : BitVec 32 := 0#32
  let c0_i32_4 : BitVec 32 := 0#32
  let c1_i32 : BitVec 32 := 1#32
  let arg18 : BitVec 32 := Scf.iv c0_i32_4 c1_i32 k0_t1
  let c1_i32_14 : BitVec 32 := 1#32
  let v9 : BitVec 32 := Scalar.muli arg18 c1_i32_14
  let v10 : BitVec 32 := Scalar.addi c0_i32_15 v9
  let c4_i32 : BitVec 32 := 4#32
  let v11 : BitVec 32 := Scalar.muli v10 c4_i32
  let c0_i32_16 : BitVec 32 := 0#32
  let v12 : BitVec 32 := Scalar.addi v11 c0_i32_16
  let c4_i32_87 : BitVec 32 := 4#32
  let v108 : BitVec 32 := Scalar.addi v12 c4_i32_87
  let c512_i32_88 : BitVec 32 := 512#32
  let v109 : BitVec 32 := Scalar.muli v108 c512_i32_88
  let c0_i32_89 : BitVec 32 := 0#32
  ![v109.toNat, 0]
def k0_cond4 (k0_t1 : Fin k0_t1_loop.trips) : BitVec 1 :=
  let c0_i32_15 : BitVec 32 := 0#32
  let c0_i32_4 : BitVec 32 := 0#32
  let c1_i32 : BitVec 32 := 1#32
  let arg18 : BitVec 32 := Scf.iv c0_i32_4 c1_i32 k0_t1
  let c1_i32_14 : BitVec 32 := 1#32
  let v9 : BitVec 32 := Scalar.muli arg18 c1_i32_14
  let v10 : BitVec 32 := Scalar.addi c0_i32_15 v9
  let c4_i32 : BitVec 32 := 4#32
  let v11 : BitVec 32 := Scalar.muli v10 c4_i32
  let c1_i32_32 : BitVec 32 := 1#32
  let v36 : BitVec 32 := Scalar.addi v11 c1_i32_32
  let c4_i32_48 : BitVec 32 := 4#32
  let v56 : BitVec 32 := Scalar.addi v36 c4_i32_48
  let c32_i32_49 : BitVec 32 := 32#32
  let v57 : BitVec 1 := Scalar.cmpi .slt v56 c32_i32_49
  let v58 : BitVec 32 := Scalar.extui v57
  let c0_i32_50 : BitVec 32 := 0#32
  let v59 : BitVec 1 := Scalar.cmpi .ne v58 c0_i32_50
  v59

def k0_off3 (k0_t1 : Fin k0_t1_loop.trips) : Fin 2 → Nat :=
  let c0_i32_15 : BitVec 32 := 0#32
  let c0_i32_4 : BitVec 32 := 0#32
  let c1_i32 : BitVec 32 := 1#32
  let arg18 : BitVec 32 := Scf.iv c0_i32_4 c1_i32 k0_t1
  let c1_i32_14 : BitVec 32 := 1#32
  let v9 : BitVec 32 := Scalar.muli arg18 c1_i32_14
  let v10 : BitVec 32 := Scalar.addi c0_i32_15 v9
  let c4_i32 : BitVec 32 := 4#32
  let v11 : BitVec 32 := Scalar.muli v10 c4_i32
  let c1_i32_32 : BitVec 32 := 1#32
  let v36 : BitVec 32 := Scalar.addi v11 c1_i32_32
  let c4_i32_87 : BitVec 32 := 4#32
  let v108 : BitVec 32 := Scalar.addi v36 c4_i32_87
  let c512_i32_88 : BitVec 32 := 512#32
  let v109 : BitVec 32 := Scalar.muli v108 c512_i32_88
  let c0_i32_89 : BitVec 32 := 0#32
  ![v109.toNat, 0]
def k0_cond6 (k0_t1 : Fin k0_t1_loop.trips) : BitVec 1 :=
  let c0_i32_15 : BitVec 32 := 0#32
  let c0_i32_4 : BitVec 32 := 0#32
  let c1_i32 : BitVec 32 := 1#32
  let arg18 : BitVec 32 := Scf.iv c0_i32_4 c1_i32 k0_t1
  let c1_i32_14 : BitVec 32 := 1#32
  let v9 : BitVec 32 := Scalar.muli arg18 c1_i32_14
  let v10 : BitVec 32 := Scalar.addi c0_i32_15 v9
  let c4_i32 : BitVec 32 := 4#32
  let v11 : BitVec 32 := Scalar.muli v10 c4_i32
  let c2_i32 : BitVec 32 := 2#32
  let v60 : BitVec 32 := Scalar.addi v11 c2_i32
  let c4_i32_66 : BitVec 32 := 4#32
  let v80 : BitVec 32 := Scalar.addi v60 c4_i32_66
  let c32_i32_67 : BitVec 32 := 32#32
  let v81 : BitVec 1 := Scalar.cmpi .slt v80 c32_i32_67
  let v82 : BitVec 32 := Scalar.extui v81
  let c0_i32_68 : BitVec 32 := 0#32
  let v83 : BitVec 1 := Scalar.cmpi .ne v82 c0_i32_68
  v83

def k0_off4 (k0_t1 : Fin k0_t1_loop.trips) : Fin 2 → Nat :=
  let c0_i32_15 : BitVec 32 := 0#32
  let c0_i32_4 : BitVec 32 := 0#32
  let c1_i32 : BitVec 32 := 1#32
  let arg18 : BitVec 32 := Scf.iv c0_i32_4 c1_i32 k0_t1
  let c1_i32_14 : BitVec 32 := 1#32
  let v9 : BitVec 32 := Scalar.muli arg18 c1_i32_14
  let v10 : BitVec 32 := Scalar.addi c0_i32_15 v9
  let c4_i32 : BitVec 32 := 4#32
  let v11 : BitVec 32 := Scalar.muli v10 c4_i32
  let c2_i32 : BitVec 32 := 2#32
  let v60 : BitVec 32 := Scalar.addi v11 c2_i32
  let c4_i32_87 : BitVec 32 := 4#32
  let v108 : BitVec 32 := Scalar.addi v60 c4_i32_87
  let c512_i32_88 : BitVec 32 := 512#32
  let v109 : BitVec 32 := Scalar.muli v108 c512_i32_88
  let c0_i32_89 : BitVec 32 := 0#32
  ![v109.toNat, 0]
def k0_cond8 (k0_t1 : Fin k0_t1_loop.trips) : BitVec 1 :=
  let c0_i32_15 : BitVec 32 := 0#32
  let c0_i32_4 : BitVec 32 := 0#32
  let c1_i32 : BitVec 32 := 1#32
  let arg18 : BitVec 32 := Scf.iv c0_i32_4 c1_i32 k0_t1
  let c1_i32_14 : BitVec 32 := 1#32
  let v9 : BitVec 32 := Scalar.muli arg18 c1_i32_14
  let v10 : BitVec 32 := Scalar.addi c0_i32_15 v9
  let c4_i32 : BitVec 32 := 4#32
  let v11 : BitVec 32 := Scalar.muli v10 c4_i32
  let c3_i32 : BitVec 32 := 3#32
  let v84 : BitVec 32 := Scalar.addi v11 c3_i32
  let c4_i32_84 : BitVec 32 := 4#32
  let v104 : BitVec 32 := Scalar.addi v84 c4_i32_84
  let c32_i32_85 : BitVec 32 := 32#32
  let v105 : BitVec 1 := Scalar.cmpi .slt v104 c32_i32_85
  let v106 : BitVec 32 := Scalar.extui v105
  let c0_i32_86 : BitVec 32 := 0#32
  let v107 : BitVec 1 := Scalar.cmpi .ne v106 c0_i32_86
  v107

def k0_off5 (k0_t1 : Fin k0_t1_loop.trips) : Fin 2 → Nat :=
  let c0_i32_15 : BitVec 32 := 0#32
  let c0_i32_4 : BitVec 32 := 0#32
  let c1_i32 : BitVec 32 := 1#32
  let arg18 : BitVec 32 := Scf.iv c0_i32_4 c1_i32 k0_t1
  let c1_i32_14 : BitVec 32 := 1#32
  let v9 : BitVec 32 := Scalar.muli arg18 c1_i32_14
  let v10 : BitVec 32 := Scalar.addi c0_i32_15 v9
  let c4_i32 : BitVec 32 := 4#32
  let v11 : BitVec 32 := Scalar.muli v10 c4_i32
  let c3_i32 : BitVec 32 := 3#32
  let v84 : BitVec 32 := Scalar.addi v11 c3_i32
  let c4_i32_87 : BitVec 32 := 4#32
  let v108 : BitVec 32 := Scalar.addi v84 c4_i32_87
  let c512_i32_88 : BitVec 32 := 512#32
  let v109 : BitVec 32 := Scalar.muli v108 c512_i32_88
  let c0_i32_89 : BitVec 32 := 0#32
  ![v109.toNat, 0]
-- ==== ReferenceIdeal.lean ====
abbrev S16384x2048 : Shape := ⟨2, ![16384, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S_, .f32⟩
  | .hbm, ⟨2, _⟩ => ⟨S16384x2048, .f32⟩
  | .hbm, ⟨3, _⟩ => ⟨S_, .f32⟩
  | .hbm, ⟨4, _⟩ => ⟨S16384x2048, .f32⟩
  | .hbm, ⟨5, _⟩ => ⟨S16384x2048, .i1⟩
  | .hbm, ⟨6, _⟩ => ⟨S_, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384x2048, .f32⟩
  | .hbm, ⟨12, _⟩ => ⟨S16384x2048, .i1⟩
  | .hbm, ⟨13, _⟩ => ⟨S_, .f32⟩
  | .hbm, ⟨14, _⟩ => ⟨S16384x2048, .f32⟩
  | .hbm, ⟨15, _⟩ => ⟨S16384x2048, .f32⟩
  | .hbm, ⟨16, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_cst_3 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Proof.Stream.Blocks.lean ====
/-
  The blocks of the kernel's two arrays, by name. The array has 32 blocks of 512 rows; lane `j` of the four lanes
  works on blocks `j`, `4 + j`, `8 + j`, …, so its `n`-th block starts at row `2048 * n + 512 * j`. The slices the
  kernel takes are equated here with these names, and the kernel's two kinds of guards are decided from the trip.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Pipeline.Value
public import Idealize.ShloMosaic.Lib.VecWindow
public import Idealize.ShloMosaic.Lib.Tactic

@[expose] public section

noncomputable section

namespace Cert.Proof.Stream

open Cert.KernelIdeal Cert.KernelIdeal.Gen
open Idealize.ShloMosaic
open Idealize.ShloMosaic.TcCoe Idealize.ShloMosaic.Tactic

/-! ## Names -/

/-- The kernel's argument, whole. -/
abbrev aM : Memref sig .tc .hbm S16384x2048 .f32 := Memref.whole main_arg0
/-- The kernel's result, whole. -/
abbrev oM : Memref sig .tc .hbm S16384x2048 .f32 := Memref.whole main_v0

/-- Where the `n`-th block of lane `j` starts (the lanes have eight blocks each). -/
abbrev blkOff (j : Fin 4) (n : ℕ) : Fin 2 → Nat := ![2048 * (n % 8) + 512 * j.val, 0]

/-- A lane's block lies within the array. -/
theorem blkOff_inb (j : Fin 4) (n : ℕ) : ∀ a, blkOff j n a + S512x2048.size a ≤ S16384x2048.size a := by
  have hj := j.isLt
  have hn : n % 8 < 8 := Nat.mod_lt _ (by decide)
  intro a
  fin_cases a
  · show 2048 * (n % 8) + 512 * j.val + 512 ≤ 16384; omega
  · show 0 + 2048 ≤ 2048; omega

/-- The rectangle of lane `j`'s `n`-th block. -/
abbrev blkRect (j : Fin 4) (n : ℕ) : Rect S16384x2048 :=
  Rect.unit (s := S16384x2048) (blkOff j n) S512x2048.size (blkOff_inb j n)

/-- Lane `j`'s `n`-th block of the argument. -/
def ablk (j : Fin 4) (n : ℕ) : Memref sig .tc .hbm S512x2048 .f32 := aM.slice (blkRect j n) (fun _ => rfl)
/-- Lane `j`'s `n`-th block of the result. -/
def oblk (j : Fin 4) (n : ℕ) : Memref sig .tc .hbm S512x2048 .f32 := oM.slice (blkRect j n) (fun _ => rfl)

/-- The loop runs eight trips. -/
theorem trips_eq : k0_t1_loop.trips = 8 := by decide +kernel

/-- A trip is one of eight. -/
theorem trip_lt (k : Fin k0_t1_loop.trips) : k.val < 8 := Nat.lt_of_lt_of_eq k.isLt trips_eq

/-! ## The kernel's slices are these blocks -/

/-- A slice of the argument at the offset of a block is that block. -/
theorem ablk_congr {off : Fin 2 → Nat} {j : Fin 4} {n : ℕ} (e : off = blkOff j n) (hh hs) :
    aM.slice (Rect.unit (s := S16384x2048) off S512x2048.size hh) hs = ablk j n :=
  Memref.slice_unit_congr _ e hh (blkOff_inb j n) hs (fun _ => rfl)
/-- The same for the result. -/
theorem oblk_congr {off : Fin 2 → Nat} {j : Fin 4} {n : ℕ} (e : off = blkOff j n) (hh hs) :
    oM.slice (Rect.unit (s := S16384x2048) off S512x2048.size hh) hs = oblk j n :=
  Memref.slice_unit_congr _ e hh (blkOff_inb j n) hs (fun _ => rfl)

/-- The block a trip stores, by lane. -/
theorem off1_blk (k : Fin k0_t1_loop.trips) (j : Fin 4) : k0_off1 k (BitVec.ofNat 32 j.val) = blkOff j k.val := by
  rw [k0_off1_eq, blkOff, Nat.mod_eq_of_lt (trip_lt k)]

/-- The block a trip but the last asks for next, by lane. -/
theorem next_blk {k d : ℕ} (j : Fin 4) (hk : k + 1 < 8) (hd : d = 2048 + 512 * j.val) : ![2048 * k + d, 0] = blkOff j (k + 1) := by
  rw [blkOff, Nat.mod_eq_of_lt hk, hd, show 2048 * k + (2048 + 512 * j.val) = 2048 * (k + 1) + 512 * j.val by omega]

@[sl_canon] theorem outK0 (k : Fin k0_t1_loop.trips) (hh hs) :
    oM.slice (Rect.unit (s := S16384x2048) (k0_off1 k 0#32) S512x2048.size hh) hs = oblk 0 k.val := oblk_congr (off1_blk k 0) _ _
@[sl_canon] theorem outK1 (k : Fin k0_t1_loop.trips) (hh hs) :
    oM.slice (Rect.unit (s := S16384x2048) (k0_off1 k 1#32) S512x2048.size hh) hs = oblk 1 k.val := oblk_congr (off1_blk k 1) _ _
@[sl_canon] theorem outK2 (k : Fin k0_t1_loop.trips) (hh hs) :
    oM.slice (Rect.unit (s := S16384x2048) (k0_off1 k 2#32) S512x2048.size hh) hs = oblk 2 k.val := oblk_congr (off1_blk k 2) _ _
@[sl_canon] theorem outK3 (k : Fin k0_t1_loop.trips) (hh hs) :
    oM.slice (Rect.unit (s := S16384x2048) (k0_off1 k 3#32) S512x2048.size hh) hs = oblk 3 k.val := oblk_congr (off1_blk k 3) _ _

@[sl_canon] theorem inK0 (k : Fin k0_t1_loop.trips) (hk : k.val + 1 < 8) (hh hs) :
    aM.slice (Rect.unit (s := S16384x2048) (k0_off2 k) S512x2048.size hh) hs = ablk 0 (k.val + 1) :=
  ablk_congr ((k0_off2_eq k).trans (next_blk 0 hk rfl)) _ _
@[sl_canon] theorem inK1 (k : Fin k0_t1_loop.trips) (hk : k.val + 1 < 8) (hh hs) :
    aM.slice (Rect.unit (s := S16384x2048) (k0_off3 k) S512x2048.size hh) hs = ablk 1 (k.val + 1) :=
  ablk_congr ((k0_off3_eq k).trans (next_blk 1 hk rfl)) _ _
@[sl_canon] theorem inK2 (k : Fin k0_t1_loop.trips) (hk : k.val + 1 < 8) (hh hs) :
    aM.slice (Rect.unit (s := S16384x2048) (k0_off4 k) S512x2048.size hh) hs = ablk 2 (k.val + 1) :=
  ablk_congr ((k0_off4_eq k).trans (next_blk 2 hk rfl)) _ _
@[sl_canon] theorem inK3 (k : Fin k0_t1_loop.trips) (hk : k.val + 1 < 8) (hh hs) :
    aM.slice (Rect.unit (s := S16384x2048) (k0_off5 k) S512x2048.size hh) hs = ablk 3 (k.val + 1) :=
  ablk_congr ((k0_off5_eq k).trans (next_blk 3 hk rfl)) _ _

/-- The blocks asked for before the loop, and the first block of either array (a wait names one for its size). -/
@[sl_canon] theorem inL0 (hh hs) : aM.slice (Rect.unit (s := S16384x2048) ![0, 0] S512x2048.size hh) hs = ablk 0 0 := ablk_congr (by decide) _ _
@[sl_canon] theorem inL1 (hh hs) : aM.slice (Rect.unit (s := S16384x2048) ![512, 0] S512x2048.size hh) hs = ablk 1 0 := ablk_congr (by decide) _ _
@[sl_canon] theorem inL2 (hh hs) : aM.slice (Rect.unit (s := S16384x2048) ![1024, 0] S512x2048.size hh) hs = ablk 2 0 := ablk_congr (by decide) _ _
@[sl_canon] theorem inL3 (hh hs) : aM.slice (Rect.unit (s := S16384x2048) ![1536, 0] S512x2048.size hh) hs = ablk 3 0 := ablk_congr (by decide) _ _
@[sl_canon] theorem outL0 (hh hs) : oM.slice (Rect.unit (s := S16384x2048) ![0, 0] S512x2048.size hh) hs = oblk 0 0 := oblk_congr (by decide) _ _

/-! ## The guards -/

/-- Every trip but the last asks for the lanes' next blocks; -/
theorem more : ∀ k : Fin k0_t1_loop.trips, k.val + 1 < 8 → k0_cond2 k = 1#1 ∧ k0_cond4 k = 1#1 ∧ k0_cond6 k = 1#1 ∧ k0_cond8 k = 1#1 := by
  decide +kernel
/-- the last asks for none. -/
theorem no_more : ∀ k : Fin k0_t1_loop.trips, ¬ k.val + 1 < 8 → ¬ k0_cond2 k = 1#1 ∧ ¬ k0_cond4 k = 1#1 ∧ ¬ k0_cond6 k = 1#1 ∧ ¬ k0_cond8 k = 1#1 := by
  decide +kernel

/-- The word by which a trip decides whether lane `j` has an earlier block on its way out. -/
abbrev outWord (k : Fin k0_t1_loop.trips) (j : BitVec 32) : BitVec 1 :=
  Scalar.cmpi .ne (Scalar.extui (Scalar.cmpi .sge
    (Scalar.addi (Scalar.muli (Scalar.addi 0#32 (Scalar.muli (Scf.iv 0#32 1#32 k) 1#32)) 4#32) j) 4#32) : BitVec 32) 0#32

/-- Every trip but the first waits for the lanes' earlier blocks; -/
theorem earlier : ∀ k : Fin k0_t1_loop.trips, 0 < k.val →
    outWord k 0#32 = 1#1 ∧ outWord k 1#32 = 1#1 ∧ outWord k 2#32 = 1#1 ∧ outWord k 3#32 = 1#1 := by
  decide +kernel
/-- the first for none. -/
theorem no_earlier : ∀ k : Fin k0_t1_loop.trips, ¬ 0 < k.val →
    ¬ outWord k 0#32 = 1#1 ∧ ¬ outWord k 1#32 = 1#1 ∧ ¬ outWord k 2#32 = 1#1 ∧ ¬ outWord k 3#32 = 1#1 := by
  decide +kernel

end Cert.Proof.Stream

end
-- ==== Proof.Stream.State.lean ====
/-
  What the kernel holds between two trips of its loop, lane by lane: a lane's input buffer with the block in flight
  into it, the lane's blocks of the argument at home, a lane's output buffer with the block in flight out of it, and
  the lane's blocks of the result written so far and still to be written. Each way a trip opens and closes such a
  state is a lemma here.
-/
module

public import proofs.«01_k».proof.Proof.Stream.Blocks
public import Idealize.ShloMosaic.Lib.ViewIndex

@[expose] public section

noncomputable section

namespace Cert.Proof.Stream

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the launch's own, beside the counters the transfers ride on. -/
abbrev UU (nD : Nat) (τ : Topo) : Type := UR sig nD τ × Counters
local notation "𝕄" => MT nD τ sig Unit (Elt F) ℕ (UU nD τ) ℕ
abbrev 𝒱₀ : Variants := Variants.none

omit [FloatOps F] in
/-- Equal assertions entail each other. -/
theorem entails_of_eq {P Q : sProp 𝕄} (e : P = Q) : P ⊢ Q := e ▸ .rfl

/-! ## The value -/

/-- The value stored for the element `x`: two where it is minus one, a half where it is one, one elsewhere. -/
def stepOf (x : F .f32) : F .f32 :=
  Scalar.select (FloatOps.cmpf .oeq x (Scalar.ofBits .f32 0xBF800000#32)) (Scalar.ofBits .f32 0x40000000#32)
    (Scalar.select (FloatOps.cmpf .oeq x (Scalar.ofBits .f32 0x3F800000#32)) (Scalar.ofBits .f32 0x3F000000#32)
      (Scalar.ofBits .f32 0x3F800000#32))

/-- The whole result, of the whole argument. -/
def result (X : S16384x2048.Idx → F .f32) : S16384x2048.Idx → F .f32 := fun y => stepOf (X y)

/-- The first lane's store is the value above, element by element. -/
theorem pay_lane0 (v : Vec F S512x2048 .f32) : k0_pay2 v = fun x => stepOf (v x) := by
  unfold k0_pay2; exact (shapeCast_self _ _).trans rfl
/-- The second lane's store. -/
theorem pay_lane1 (v : Vec F S512x2048 .f32) : k0_pay3 v = fun x => stepOf (v x) := by
  unfold k0_pay3; exact (shapeCast_self _ _).trans rfl
/-- The third lane's store. -/
theorem pay_lane2 (v : Vec F S512x2048 .f32) : k0_pay5 v k0_pay4 = fun x => stepOf (v x) := by
  unfold k0_pay5; exact (shapeCast_self _ _).trans rfl
/-- The fourth lane's store. -/
theorem pay_lane3 (v : Vec F S512x2048 .f32) : k0_pay1 (k0_pay6 v) = fun x => stepOf (v x) := by
  unfold k0_pay1; exact (shapeCast_self _ _).trans rfl

/-- A buffer stored whole with a function `φ` of the elements of another buffer, where `p` had arrived whole, reads `φ` of
    `p`'s elements. -/
theorem read_stored {sig : RefSig} {κ κ' : Kind} {sp sp' : Space} {s : Shape} {e : EltTy} {Val : EltTy → Type} [∀ e, Nonempty (Val e)]
    (v : View sig κ sp s e) (v' : View sig κ' sp' s e) (g : v'.ty.Contents Val) {off : Fin s.rank → ℕ} (inb : ∀ a, off a + s.size a ≤ s.size a)
    (φ : Val e → Val e) (p : s.Idx → Val e) (W : (s.Idx → Val e) → s.Idx → Val e) (hW : ∀ u, W u = fun x => φ (u x)) (x : s.Idx) :
    v'.read Val (v'.writes Val g [⟨Rect.unit off s.size inb, W (v.readCov [⟨Rect.whole s, p⟩] (Rect.unit off s.size inb).toLoadRect)⟩]) x
      = φ (p x) := by
  rw [View.read_writes_full, hW]
  exact congrArg φ (congrFun (View.readCov_full v inb _ p []) x)

/-- A view where `w` has arrived whole reads `w`. -/
theorem read_arrived {sig : RefSig} {κ : Kind} {sp : Space} {s : Shape} {e : EltTy} {Val : EltTy → Type}
    (v : View sig κ sp s e) (g : v.ty.Contents Val) (w : s.Idx → Val e) (x : s.Idx) :
    v.read Val (v.writes Val g [⟨Rect.whole s, w⟩]) x = w x := by
  have h := View.read_writes_cons_emb v g (Rect.whole s) w [] x
  rwa [Rect.emb_whole_apply] at h

/-! ## A lane -/

section Lane

variable (c : Dev nD) (X : Buf (Elt F) (aM.view.loc (c : Thread nD τ))) (Y : Buf (Elt F) (oM.view.loc (c : Thread nD τ)))
variable (M : Memref sig .tc .vmem S512x2048 .f32) (sm : DmaSems sig S_) (j : Fin 4)

/-- A lane's buffer at the contents `f`. -/
abbrev bufP (f : Buf (Elt F) (M.view.loc (c : Thread nD τ))) : sProp 𝕄 :=
  M.view.loc (c : Thread nD τ) ↦[M.view.set]{fullShare} f
/-- A lane's semaphore at zero. -/
abbrev cellP : sProp 𝕄 := semVal ((c : Thread nD τ), SemLoc.dma sm.sem) 0
/-- The lane's `n`-th block of the argument, at home. -/
abbrev inP (n : ℕ) : sProp 𝕄 := (ablk j n).view.loc (c : Thread nD τ) ↦[(ablk j n).view.set]{fullShare} X
/-- The lane's `n`-th block of the result, at the contents `Z`. -/
abbrev outP (Z : Buf (Elt F) (oM.view.loc (c : Thread nD τ))) (n : ℕ) : sProp 𝕄 :=
  (oblk j n).view.loc (c : Thread nD τ) ↦[(oblk j n).view.set]{fullShare} Z
/-- What a transfer of the lane's `n`-th block leaves in the lane's buffer. -/
abbrev landed (n : ℕ) (f : Buf (Elt F) (M.view.loc (c : Thread nD τ))) : Buf (Elt F) (M.view.loc (c : Thread nD τ)) :=
  M.view.writes (Elt F) f [⟨Rect.whole S512x2048, ReadAs.same.apply ((ablk j n).view.read (Elt F) X)⟩]
/-- The lane's `n`-th block on its way in. -/
abbrev inFlight (n : ℕ) (f : Buf (Elt F) (M.view.loc (c : Thread nD τ))) : sProp 𝕄 :=
  Transfers.Flight countersEmb (c : Thread nD τ) (SemLoc.dma sm.sem) () 131072 iprop(bufP c M (landed c X M j n f) ∗ inP c X j n)
/-- The lane's `n`-th block on its way out, to hold `Z` on arrival. -/
abbrev outFlight (Z : Buf (Elt F) (oM.view.loc (c : Thread nD τ))) (n : ℕ) (f : Buf (Elt F) (M.view.loc (c : Thread nD τ))) : sProp 𝕄 :=
  Transfers.Flight countersEmb (c : Thread nD τ) (SemLoc.dma sm.sem) () 131072 iprop(outP c j Z n ∗ bufP c M f)

/-- A block asked for into a buffer where an earlier block had arrived is on its way in. -/
theorem inFlight_over (n n' : ℕ) (f : Buf (Elt F) (M.view.loc (c : Thread nD τ))) :
    (Transfers.Flight countersEmb (c : Thread nD τ) (SemLoc.dma sm.sem) () 131072
        iprop(bufP c M (M.view.writes (Elt F) f [⟨Rect.whole S512x2048, ReadAs.same.apply ((ablk j n').view.read (Elt F) X)⟩,
          ⟨Rect.whole S512x2048, ReadAs.same.apply ((ablk j n).view.read (Elt F) X)⟩]) ∗ inP c X j n') : sProp 𝕄)
      ⊢ iprop(∃ f, inFlight c X M sm j n' f) := by
  rw [show M.view.writes (Elt F) f [⟨Rect.whole S512x2048, ReadAs.same.apply ((ablk j n').view.read (Elt F) X)⟩,
      ⟨Rect.whole S512x2048, ReadAs.same.apply ((ablk j n).view.read (Elt F) X)⟩] = landed c X M j n' (landed c X M j n f)
    from View.writes_append M.view f [_] [_]]
  iintro H
  iexists (landed c X M j n f)
  iexact H

omit [FloatOps F] in
/-- A block of either array reads the array at the block's rows. -/
theorem read_ablk (n : ℕ) (x : S512x2048.Idx) : (ablk j n).view.read (Elt F) X x = X ((blkRect j n).emb x) := rfl
omit [FloatOps F] in
/-- Reading a block of the result reads the array at the elements of the block. -/
theorem read_oblk (n : ℕ) (x : S512x2048.Idx) : (oblk j n).view.read (Elt F) Y x = Y ((blkRect j n).emb x) := rfl

/-- A block of the result over which the values of the same block of the argument arrive holds the result there. -/
theorem outP_stored (n : ℕ) (w : S512x2048.Idx → F .f32) (h : ∀ x, w x = stepOf ((ablk j n).view.read (Elt F) X x)) :
    (outP c j ((oblk j n).view.writes (Elt F) Y [⟨Rect.whole S512x2048, w⟩]) n : sProp 𝕄) = outP c j (result X) n :=
  pointsTo_congr fun y hy => by
    obtain ⟨x, -, rfl⟩ := Finset.mem_map.mp hy
    exact View.eq_of_read_eq ((read_arrived (oblk j n).view Y w x).trans ((h x).trans
      ((congrArg stepOf (read_ablk c X j n x)).trans (read_oblk c (result X) j n x).symm)))

/-- So a block sent out with those values is on its way out to hold the result. -/
theorem outFlight_stored (n : ℕ) (w : S512x2048.Idx → F .f32) (h : ∀ x, w x = stepOf ((ablk j n).view.read (Elt F) X x))
    (g : Buf (Elt F) (M.view.loc (c : Thread nD τ))) :
    (Transfers.Flight countersEmb (c : Thread nD τ) (SemLoc.dma sm.sem) () 131072
        iprop(outP c j ((oblk j n).view.writes (Elt F) Y [⟨Rect.whole S512x2048, w⟩]) n ∗ bufP c M g) : sProp 𝕄)
      ⊢ iprop(∃ f, outFlight c M sm j (result X) n f) := by
  rw [outP_stored c X Y j n w h]
  iintro H
  iexists g
  iexact H

/-! ### A lane between trips -/

/-- The lane's blocks of the argument but the two that trip `k` works on. -/
def inRest (k : ℕ) : sProp 𝕄 :=
  iprop(bigSep (Ring.rangeSet 8 0 k) (fun i => inP c X j i.val) ∗ bigSep (Ring.rangeSet 8 (k + 2) 8) (fun i => inP c X j i.val))

/-- The lane's input side before trip `k`: block `k` on its way in while there is one, the other blocks at home. -/
def inLane (k : ℕ) : sProp 𝕄 :=
  iprop(bigSep (Ring.rangeSet 8 0 k) (fun i => inP c X j i.val) ∗ bigSep (Ring.rangeSet 8 (k + 1) 8) (fun i => inP c X j i.val)
    ∗ if k < 8 then iprop(∃ f, inFlight c X M sm j k f) else iprop((∃ f, bufP c M f) ∗ cellP c sm))

/-- A trip but the last takes the block on its way and the block to ask for, -/
theorem inLane_take {k : ℕ} (hk : k + 1 < 8) :
    (inLane c X M sm j k : sProp 𝕄) ⊢ iprop((∃ f, inFlight c X M sm j k f) ∗ inP c X j (k + 1) ∗ inRest c X j k) := by
  unfold inLane inRest
  rw [if_pos (by omega), Ring.bigSep_rangeSet_head (lo := k + 1) hk hk]
  iintro ⟨Hl, ⟨Hn, Hh⟩, Hf⟩
  isplitl [Hf]; · iexact Hf
  isplitl [Hn]; · iexact Hn
  isplitl [Hl]; · iexact Hl
  iexact Hh

/-- and leaves the next trip's; -/
theorem inLane_give {k : ℕ} (hk : k + 1 < 8) :
    iprop(inP c X j k ∗ (∃ f, inFlight c X M sm j (k + 1) f) ∗ inRest c X j k) ⊢ (inLane c X M sm j (k + 1) : sProp 𝕄) := by
  unfold inLane inRest
  rw [if_pos hk, Ring.bigSep_rangeSet_last (hi := k + 1) (Nat.succ_pos k) (by omega)]
  iintro ⟨Hn, Hf, Hl, Hh⟩
  isplitl [Hn Hl]
  · isplitl [Hn]; · iexact Hn
    iexact Hl
  isplitl [Hh]; · iexact Hh
  iexact Hf

/-- the last trip takes the last block on its way, -/
theorem inLane_take_last {k : ℕ} (hk : k < 8) (hk' : ¬ k + 1 < 8) :
    (inLane c X M sm j k : sProp 𝕄) ⊢ iprop((∃ f, inFlight c X M sm j k f) ∗ inRest c X j k) := by
  unfold inLane inRest
  rw [if_pos hk, Ring.bigSep_rangeSet_empty (lo := k + 1) (by omega), Ring.bigSep_rangeSet_empty (lo := k + 2) (by omega)]
  iintro ⟨Hl, He, Hf⟩
  isplitl [Hf]; · iexact Hf
  isplitl [Hl]; · iexact Hl
  iexact He

/-- and leaves the lane at rest. -/
theorem inLane_give_last {k : ℕ} (hk : k < 8) (hk' : ¬ k + 1 < 8) :
    iprop(inP c X j k ∗ ((∃ f, bufP c M f) ∗ cellP c sm) ∗ inRest c X j k) ⊢ (inLane c X M sm j (k + 1) : sProp 𝕄) := by
  unfold inLane inRest
  rw [if_neg hk', Ring.bigSep_rangeSet_last (hi := k + 1) (Nat.succ_pos k) (by omega)]
  iintro ⟨Hn, Hf, Hl, Hh⟩
  isplitl [Hn Hl]
  · isplitl [Hn]; · iexact Hn
    iexact Hl
  isplitl [Hh]; · iexact Hh
  iexact Hf

/-- The lane's blocks of the result but the two that trip `k` works on. -/
def outRest (G : Buf (Elt F) (oM.view.loc (c : Thread nD τ))) (k : ℕ) : sProp 𝕄 :=
  iprop(bigSep (Ring.rangeSet 8 0 (k - 1)) (fun i => outP c j G i.val) ∗ bigSep (Ring.rangeSet 8 (k + 1) 8) (fun i => outP c j Y i.val))

/-- The lane's output side before trip `k`: block `k - 1` on its way out, the blocks before it at `G`, the blocks from
    `k` on as they were. -/
def outLane (G : Buf (Elt F) (oM.view.loc (c : Thread nD τ))) (k : ℕ) : sProp 𝕄 :=
  iprop(bigSep (Ring.rangeSet 8 0 (k - 1)) (fun i => outP c j G i.val) ∗ bigSep (Ring.rangeSet 8 k 8) (fun i => outP c j Y i.val)
    ∗ if 0 < k then iprop(∃ f, outFlight c M sm j G (k - 1) f) else iprop((∃ f, bufP c M f) ∗ cellP c sm))

variable (G : Buf (Elt F) (oM.view.loc (c : Thread nD τ)))

/-- A trip but the first takes the block on its way and the block to write, -/
theorem outLane_take {k : ℕ} (h0 : 0 < k) (hk : k < 8) :
    (outLane c Y M sm j G k : sProp 𝕄) ⊢ iprop((∃ f, outFlight c M sm j G (k - 1) f) ∗ outP c j Y k ∗ outRest c Y j G k) := by
  unfold outLane outRest
  rw [if_pos h0, Ring.bigSep_rangeSet_head (lo := k) hk hk]
  iintro ⟨Hl, ⟨Hn, Hh⟩, Hf⟩
  isplitl [Hf]; · iexact Hf
  isplitl [Hn]; · iexact Hn
  isplitl [Hl]; · iexact Hl
  iexact Hh

/-- and leaves the next trip's; -/
theorem outLane_give {k : ℕ} (h0 : 0 < k) (hk : k < 8) :
    iprop(outP c j G (k - 1) ∗ (∃ f, outFlight c M sm j G k f) ∗ outRest c Y j G k) ⊢ (outLane c Y M sm j G (k + 1) : sProp 𝕄) := by
  unfold outLane outRest
  rw [if_pos (Nat.succ_pos k), Nat.add_sub_cancel, Ring.bigSep_rangeSet_last (hi := k) h0 (by omega)]
  iintro ⟨Hn, Hf, Hl, Hh⟩
  isplitl [Hn Hl]
  · isplitl [Hn]; · iexact Hn
    iexact Hl
  isplitl [Hh]; · iexact Hh
  iexact Hf

/-- the first takes the lane at rest, -/
theorem outLane_take_first {k : ℕ} (h0 : ¬ 0 < k) :
    (outLane c Y M sm j G k : sProp 𝕄) ⊢ iprop(((∃ f, bufP c M f) ∗ cellP c sm) ∗ outP c j Y k ∗ outRest c Y j G k) := by
  unfold outLane outRest
  rw [if_neg h0, Ring.bigSep_rangeSet_head (lo := k) (hi := 8) (by omega) (by omega)]
  iintro ⟨Hl, ⟨Hn, Hh⟩, Hf⟩
  isplitl [Hf]; · iexact Hf
  isplitl [Hn]; · iexact Hn
  isplitl [Hl]; · iexact Hl
  iexact Hh

/-- and leaves the second's. -/
theorem outLane_give_first {k : ℕ} (h0 : ¬ 0 < k) :
    iprop((∃ f, outFlight c M sm j G k f) ∗ outRest c Y j G k) ⊢ (outLane c Y M sm j G (k + 1) : sProp 𝕄) := by
  unfold outLane outRest
  rw [if_pos (Nat.succ_pos k), Nat.add_sub_cancel, show k - 1 = k by omega]
  iintro ⟨Hf, Hl, Hh⟩
  isplitl [Hl]; · iexact Hl
  isplitl [Hh]; · iexact Hh
  iexact Hf

end Lane

end Cert.Proof.Stream

end
-- ==== Proof.Stream.Trip.lean ====
/-
  One trip of the kernel's loop takes what the four lanes hold before it to what they hold before the next trip: for
  the first trip (no block on its way out yet), for the last (no block left to ask for), and for those between.
-/
module

public import proofs.«01_k».proof.Proof.Stream.State

@[expose] public section

noncomputable section

namespace Cert.Proof.Stream

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-- The four lanes' input buffers, and their output buffers. -/
abbrev i0 : Memref sig .tc .vmem S512x2048 .f32 := Memref.whole cc0_scratch0
abbrev i1 : Memref sig .tc .vmem S512x2048 .f32 := Memref.whole cc0_scratch1
abbrev i2 : Memref sig .tc .vmem S512x2048 .f32 := Memref.whole cc0_scratch2
abbrev i3 : Memref sig .tc .vmem S512x2048 .f32 := Memref.whole cc0_scratch3
abbrev o0 : Memref sig .tc .vmem S512x2048 .f32 := Memref.whole cc0_scratch4
abbrev o1 : Memref sig .tc .vmem S512x2048 .f32 := Memref.whole cc0_scratch5
abbrev o2 : Memref sig .tc .vmem S512x2048 .f32 := Memref.whole cc0_scratch6
abbrev o3 : Memref sig .tc .vmem S512x2048 .f32 := Memref.whole cc0_scratch7

/-- One trip of the loop, on the kernel's own buffers. -/
abbrev tripG (k : Fin k0_t1_loop.trips) : Prog (TpuEff nD τ sig (Elt F) Λ₀ .tc) Unit :=
  k0_t1_body (F := F) aM (Memref.isWhole_whole _) oM (Memref.isWhole_whole _) i0 (Memref.isWhole_whole _) i1 (Memref.isWhole_whole _)
    i2 (Memref.isWhole_whole _) i3 (Memref.isWhole_whole _) o0 (Memref.isWhole_whole _) o1 (Memref.isWhole_whole _)
    o2 (Memref.isWhole_whole _) o3 (Memref.isWhole_whole _) cc0_scratch8 cc0_scratch9 cc0_scratch10 cc0_scratch11
    cc0_scratch12 cc0_scratch13 cc0_scratch14 cc0_scratch15 k ()

variable (c : Dev nD) (X : Buf (Elt F) (aM.view.loc (c : Thread nD τ))) (Y : Buf (Elt F) (oM.view.loc (c : Thread nD τ)))

/-- What the four lanes hold before trip `k`. -/
def lanes (k : ℕ) : sProp 𝕄 :=
  iprop((∃ W, owes (c : Thread nD τ) 0 W)
    ∗ inLane c X i0 cc0_scratch8 0 k ∗ inLane c X i1 cc0_scratch9 1 k ∗ inLane c X i2 cc0_scratch10 2 k ∗ inLane c X i3 cc0_scratch11 3 k
    ∗ outLane c Y o0 cc0_scratch12 0 (result X) k ∗ outLane c Y o1 cc0_scratch13 1 (result X) k
    ∗ outLane c Y o2 cc0_scratch14 2 (result X) k ∗ outLane c Y o3 cc0_scratch15 3 (result X) k)

/-- A trip between the first and the last. -/
theorem tripMid (k : Fin k0_t1_loop.trips) (h0 : 0 < k.val) (h7 : k.val + 1 < 8) :
    lanes c X Y k.val ⊢ wp frame (wpE (defs₀ (F := F)) 𝒱₀ (c : Thread nD τ) none) Set.univ (tripG (F := F) k)
      (fun _ => lanes c X Y (k.val + 1)) := by
  have hk := trip_lt k
  obtain ⟨hc2, hc4, hc6, hc8⟩ := more k h7
  obtain ⟨hc1, hc3, hc5, hc7⟩ := earlier k h0
  unfold lanes
  iintro ⟨⟨%W, HW⟩, Hi0, Hi1, Hi2, Hi3, Ho0, Ho1, Ho2, Ho3⟩
  ihave H := (inLane_take c X i0 cc0_scratch8 0 h7) $$ Hi0
  icases H with ⟨⟨%f0, Hi0⟩, Ha0, Hr0⟩
  ihave H := (inLane_take c X i1 cc0_scratch9 1 h7) $$ Hi1
  icases H with ⟨⟨%f1, Hi1⟩, Ha1, Hr1⟩
  ihave H := (inLane_take c X i2 cc0_scratch10 2 h7) $$ Hi2
  icases H with ⟨⟨%f2, Hi2⟩, Ha2, Hr2⟩
  ihave H := (inLane_take c X i3 cc0_scratch11 3 h7) $$ Hi3
  icases H with ⟨⟨%f3, Hi3⟩, Ha3, Hr3⟩
  ihave H := (outLane_take c Y o0 cc0_scratch12 0 (result X) h0 hk) $$ Ho0
  icases H with ⟨⟨%g0, Ho0⟩, Hb0, Ht0⟩
  ihave H := (outLane_take c Y o1 cc0_scratch13 1 (result X) h0 hk) $$ Ho1
  icases H with ⟨⟨%g1, Ho1⟩, Hb1, Ht1⟩
  ihave H := (outLane_take c Y o2 cc0_scratch14 2 (result X) h0 hk) $$ Ho2
  icases H with ⟨⟨%g2, Ho2⟩, Hb2, Ht2⟩
  ihave H := (outLane_take c Y o3 cc0_scratch15 3 (result X) h0 hk) $$ Ho3
  icases H with ⟨⟨%g3, Ho3⟩, Hb3, Ht3⟩
  dsimp only [tripG]
  sl_unfold [k0_t1_body]
  sl_exec
  sl_step
  isplitl [HW]; · iexists _; iexact HW
  isplitl [Hi0 Hi0_src Hr0]
  · iapply (inLane_give c X i0 cc0_scratch8 0 h7)
    isplitl [Hi0_src]; · iexact Hi0_src
    isplitl [Hi0]
    · iapply (inFlight_over c X i0 cc0_scratch8 0 k.val (k.val + 1) f0); iexact Hi0
    iexact Hr0
  isplitl [Hi1 Hi1_src Hr1]
  · iapply (inLane_give c X i1 cc0_scratch9 1 h7)
    isplitl [Hi1_src]; · iexact Hi1_src
    isplitl [Hi1]
    · iapply (inFlight_over c X i1 cc0_scratch9 1 k.val (k.val + 1) f1); iexact Hi1
    iexact Hr1
  isplitl [Hi2 Hi2_src Hr2]
  · iapply (inLane_give c X i2 cc0_scratch10 2 h7)
    isplitl [Hi2_src]; · iexact Hi2_src
    isplitl [Hi2]
    · iapply (inFlight_over c X i2 cc0_scratch10 2 k.val (k.val + 1) f2); iexact Hi2
    iexact Hr2
  isplitl [Hi3 Hi3_src Hr3]
  · iapply (inLane_give c X i3 cc0_scratch11 3 h7)
    isplitl [Hi3_src]; · iexact Hi3_src
    isplitl [Hi3]
    · iapply (inFlight_over c X i3 cc0_scratch11 3 k.val (k.val + 1) f3); iexact Hi3
    iexact Hr3
  isplitl [Ho0 Ht0 Ho0_dst]
  · iapply (outLane_give c Y o0 cc0_scratch12 0 (result X) h0 hk)
    isplitl [Ho0_dst]; · iexact Ho0_dst
    isplitl [Ho0]
    · iapply (outFlight_stored c X Y o0 cc0_scratch12 0 k.val (tripMid.sl.dma3 c X k g0)
      (read_stored (Val := Elt F) i0.view o0.view g0 inb_S512x2048_S512x2048_0_0 stepOf _ k0_pay2 pay_lane0)
        (o0.view.writes (Elt F) g0 (tripMid.sl.Ho0_src_1 c X k)))
      iexact Ho0
    iexact Ht0
  isplitl [Ho1 Ht1 Ho1_dst]
  · iapply (outLane_give c Y o1 cc0_scratch13 1 (result X) h0 hk)
    isplitl [Ho1_dst]; · iexact Ho1_dst
    isplitl [Ho1]
    · iapply (outFlight_stored c X Y o1 cc0_scratch13 1 k.val (tripMid.sl.dma6 c X k g1)
      (read_stored (Val := Elt F) i1.view o1.view g1 inb_S512x2048_S512x2048_0_0 stepOf _ k0_pay3 pay_lane1)
        (o1.view.writes (Elt F) g1 (tripMid.sl.Ho1_src_1 c X k)))
      iexact Ho1
    iexact Ht1
  isplitl [Ho2 Ht2 Ho2_dst]
  · iapply (outLane_give c Y o2 cc0_scratch14 2 (result X) h0 hk)
    isplitl [Ho2_dst]; · iexact Ho2_dst
    isplitl [Ho2]
    · iapply (outFlight_stored c X Y o2 cc0_scratch14 2 k.val (tripMid.sl.dma9 c X k g2)
      (read_stored (Val := Elt F) i2.view o2.view g2 inb_S512x2048_S512x2048_0_0 stepOf _ (fun u => k0_pay5 u k0_pay4) pay_lane2)
        (o2.view.writes (Elt F) g2 (tripMid.sl.Ho2_src_1 c X k)))
      iexact Ho2
    iexact Ht2
  iapply (outLane_give c Y o3 cc0_scratch15 3 (result X) h0 hk)
  isplitl [Ho3_dst]; · iexact Ho3_dst
  isplitl [Ho3]
  · iapply (outFlight_stored c X Y o3 cc0_scratch15 3 k.val (tripMid.sl.dma12 c X k g3)
      (read_stored (Val := Elt F) i3.view o3.view g3 inb_S512x2048_S512x2048_0_0 stepOf _ (fun u => k0_pay1 (k0_pay6 u)) pay_lane3)
      (o3.view.writes (Elt F) g3 (tripMid.sl.Ho3_src_1 c X k)))
    iexact Ho3
  iexact Ht3

/-- The first trip. -/
theorem tripFirst (k : Fin k0_t1_loop.trips) (h0 : ¬ 0 < k.val) (h7 : k.val + 1 < 8) :
    lanes c X Y k.val ⊢ wp frame (wpE (defs₀ (F := F)) 𝒱₀ (c : Thread nD τ) none) Set.univ (tripG (F := F) k)
      (fun _ => lanes c X Y (k.val + 1)) := by
  have hk := trip_lt k
  obtain ⟨hc2, hc4, hc6, hc8⟩ := more k h7
  obtain ⟨hc1, hc3, hc5, hc7⟩ := no_earlier k h0
  unfold lanes
  iintro ⟨⟨%W, HW⟩, Hi0, Hi1, Hi2, Hi3, Ho0, Ho1, Ho2, Ho3⟩
  ihave H := (inLane_take c X i0 cc0_scratch8 0 h7) $$ Hi0
  icases H with ⟨⟨%f0, Hi0⟩, Ha0, Hr0⟩
  ihave H := (inLane_take c X i1 cc0_scratch9 1 h7) $$ Hi1
  icases H with ⟨⟨%f1, Hi1⟩, Ha1, Hr1⟩
  ihave H := (inLane_take c X i2 cc0_scratch10 2 h7) $$ Hi2
  icases H with ⟨⟨%f2, Hi2⟩, Ha2, Hr2⟩
  ihave H := (inLane_take c X i3 cc0_scratch11 3 h7) $$ Hi3
  icases H with ⟨⟨%f3, Hi3⟩, Ha3, Hr3⟩
  ihave H := (outLane_take_first c Y o0 cc0_scratch12 0 (result X) h0) $$ Ho0
  icases H with ⟨⟨⟨%g0, Hs0⟩, Ho0⟩, Hb0, Ht0⟩
  ihave H := (outLane_take_first c Y o1 cc0_scratch13 1 (result X) h0) $$ Ho1
  icases H with ⟨⟨⟨%g1, Hs1⟩, Ho1⟩, Hb1, Ht1⟩
  ihave H := (outLane_take_first c Y o2 cc0_scratch14 2 (result X) h0) $$ Ho2
  icases H with ⟨⟨⟨%g2, Hs2⟩, Ho2⟩, Hb2, Ht2⟩
  ihave H := (outLane_take_first c Y o3 cc0_scratch15 3 (result X) h0) $$ Ho3
  icases H with ⟨⟨⟨%g3, Hs3⟩, Ho3⟩, Hb3, Ht3⟩
  dsimp only [tripG]
  sl_unfold [k0_t1_body]
  sl_exec
  sl_step
  isplitl [HW]; · iexists _; iexact HW
  isplitl [Hi0 Hi0_src Hr0]
  · iapply (inLane_give c X i0 cc0_scratch8 0 h7)
    isplitl [Hi0_src]; · iexact Hi0_src
    isplitl [Hi0]
    · iapply (inFlight_over c X i0 cc0_scratch8 0 k.val (k.val + 1) f0); iexact Hi0
    iexact Hr0
  isplitl [Hi1 Hi1_src Hr1]
  · iapply (inLane_give c X i1 cc0_scratch9 1 h7)
    isplitl [Hi1_src]; · iexact Hi1_src
    isplitl [Hi1]
    · iapply (inFlight_over c X i1 cc0_scratch9 1 k.val (k.val + 1) f1); iexact Hi1
    iexact Hr1
  isplitl [Hi2 Hi2_src Hr2]
  · iapply (inLane_give c X i2 cc0_scratch10 2 h7)
    isplitl [Hi2_src]; · iexact Hi2_src
    isplitl [Hi2]
    · iapply (inFlight_over c X i2 cc0_scratch10 2 k.val (k.val + 1) f2); iexact Hi2
    iexact Hr2
  isplitl [Hi3 Hi3_src Hr3]
  · iapply (inLane_give c X i3 cc0_scratch11 3 h7)
    isplitl [Hi3_src]; · iexact Hi3_src
    isplitl [Hi3]
    · iapply (inFlight_over c X i3 cc0_scratch11 3 k.val (k.val + 1) f3); iexact Hi3
    iexact Hr3
  isplitl [Ho0 Ht0]
  · iapply (outLane_give_first c Y o0 cc0_scratch12 0 (result X) h0)
    isplitl [Ho0]
    · iapply (outFlight_stored c X Y o0 cc0_scratch12 0 k.val (tripFirst.sl.dma3 c X k g0)
      (read_stored (Val := Elt F) i0.view o0.view g0 inb_S512x2048_S512x2048_0_0 stepOf _ k0_pay2 pay_lane0)
        (o0.view.writes (Elt F) g0 (tripFirst.sl.Hs0_1 c X k)))
      iexact Ho0
    iexact Ht0
  isplitl [Ho1 Ht1]
  · iapply (outLane_give_first c Y o1 cc0_scratch13 1 (result X) h0)
    isplitl [Ho1]
    · iapply (outFlight_stored c X Y o1 cc0_scratch13 1 k.val (tripFirst.sl.dma6 c X k g1)
      (read_stored (Val := Elt F) i1.view o1.view g1 inb_S512x2048_S512x2048_0_0 stepOf _ k0_pay3 pay_lane1)
        (o1.view.writes (Elt F) g1 (tripFirst.sl.Hs1_1 c X k)))
      iexact Ho1
    iexact Ht1
  isplitl [Ho2 Ht2]
  · iapply (outLane_give_first c Y o2 cc0_scratch14 2 (result X) h0)
    isplitl [Ho2]
    · iapply (outFlight_stored c X Y o2 cc0_scratch14 2 k.val (tripFirst.sl.dma9 c X k g2)
      (read_stored (Val := Elt F) i2.view o2.view g2 inb_S512x2048_S512x2048_0_0 stepOf _ (fun u => k0_pay5 u k0_pay4) pay_lane2)
        (o2.view.writes (Elt F) g2 (tripFirst.sl.Hs2_1 c X k)))
      iexact Ho2
    iexact Ht2
  iapply (outLane_give_first c Y o3 cc0_scratch15 3 (result X) h0)
  isplitl [Ho3]
  · iapply (outFlight_stored c X Y o3 cc0_scratch15 3 k.val (tripFirst.sl.dma12 c X k g3)
      (read_stored (Val := Elt F) i3.view o3.view g3 inb_S512x2048_S512x2048_0_0 stepOf _ (fun u => k0_pay1 (k0_pay6 u)) pay_lane3)
      (o3.view.writes (Elt F) g3 (tripFirst.sl.Hs3_1 c X k)))
    iexact Ho3
  iexact Ht3

/-- The last trip. -/
theorem tripLast (k : Fin k0_t1_loop.trips) (h0 : 0 < k.val) (h7 : ¬ k.val + 1 < 8) :
    lanes c X Y k.val ⊢ wp frame (wpE (defs₀ (F := F)) 𝒱₀ (c : Thread nD τ) none) Set.univ (tripG (F := F) k)
      (fun _ => lanes c X Y (k.val + 1)) := by
  have hk := trip_lt k
  obtain ⟨hc2, hc4, hc6, hc8⟩ := no_more k h7
  obtain ⟨hc1, hc3, hc5, hc7⟩ := earlier k h0
  unfold lanes
  iintro ⟨⟨%W, HW⟩, Hi0, Hi1, Hi2, Hi3, Ho0, Ho1, Ho2, Ho3⟩
  ihave H := (inLane_take_last c X i0 cc0_scratch8 0 hk h7) $$ Hi0
  icases H with ⟨⟨%f0, Hi0⟩, Hr0⟩
  ihave H := (inLane_take_last c X i1 cc0_scratch9 1 hk h7) $$ Hi1
  icases H with ⟨⟨%f1, Hi1⟩, Hr1⟩
  ihave H := (inLane_take_last c X i2 cc0_scratch10 2 hk h7) $$ Hi2
  icases H with ⟨⟨%f2, Hi2⟩, Hr2⟩
  ihave H := (inLane_take_last c X i3 cc0_scratch11 3 hk h7) $$ Hi3
  icases H with ⟨⟨%f3, Hi3⟩, Hr3⟩
  ihave H := (outLane_take c Y o0 cc0_scratch12 0 (result X) h0 hk) $$ Ho0
  icases H with ⟨⟨%g0, Ho0⟩, Hb0, Ht0⟩
  ihave H := (outLane_take c Y o1 cc0_scratch13 1 (result X) h0 hk) $$ Ho1
  icases H with ⟨⟨%g1, Ho1⟩, Hb1, Ht1⟩
  ihave H := (outLane_take c Y o2 cc0_scratch14 2 (result X) h0 hk) $$ Ho2
  icases H with ⟨⟨%g2, Ho2⟩, Hb2, Ht2⟩
  ihave H := (outLane_take c Y o3 cc0_scratch15 3 (result X) h0 hk) $$ Ho3
  icases H with ⟨⟨%g3, Ho3⟩, Hb3, Ht3⟩
  dsimp only [tripG]
  sl_unfold [k0_t1_body]
  sl_exec
  sl_step
  isplitl [HW]; · iexists _; iexact HW
  isplitl [Hi0 Hi0_src Hi0_dst Hr0]
  · iapply (inLane_give_last c X i0 cc0_scratch8 0 hk h7)
    isplitl [Hi0_src]; · iexact Hi0_src
    isplitl [Hi0 Hi0_dst]
    · isplitl [Hi0_dst]; · iexists _; iexact Hi0_dst
      iexact Hi0
    iexact Hr0
  isplitl [Hi1 Hi1_src Hi1_dst Hr1]
  · iapply (inLane_give_last c X i1 cc0_scratch9 1 hk h7)
    isplitl [Hi1_src]; · iexact Hi1_src
    isplitl [Hi1 Hi1_dst]
    · isplitl [Hi1_dst]; · iexists _; iexact Hi1_dst
      iexact Hi1
    iexact Hr1
  isplitl [Hi2 Hi2_src Hi2_dst Hr2]
  · iapply (inLane_give_last c X i2 cc0_scratch10 2 hk h7)
    isplitl [Hi2_src]; · iexact Hi2_src
    isplitl [Hi2 Hi2_dst]
    · isplitl [Hi2_dst]; · iexists _; iexact Hi2_dst
      iexact Hi2
    iexact Hr2
  isplitl [Hi3 Hi3_src Hi3_dst Hr3]
  · iapply (inLane_give_last c X i3 cc0_scratch11 3 hk h7)
    isplitl [Hi3_src]; · iexact Hi3_src
    isplitl [Hi3 Hi3_dst]
    · isplitl [Hi3_dst]; · iexists _; iexact Hi3_dst
      iexact Hi3
    iexact Hr3
  isplitl [Ho0 Ht0 Ho0_dst]
  · iapply (outLane_give c Y o0 cc0_scratch12 0 (result X) h0 hk)
    isplitl [Ho0_dst]; · iexact Ho0_dst
    isplitl [Ho0]
    · iapply (outFlight_stored c X Y o0 cc0_scratch12 0 k.val (tripLast.sl.dma3 c X k g0)
      (read_stored (Val := Elt F) i0.view o0.view g0 inb_S512x2048_S512x2048_0_0 stepOf _ k0_pay2 pay_lane0)
        (o0.view.writes (Elt F) g0 (tripLast.sl.Ho0_src_1 c X k)))
      iexact Ho0
    iexact Ht0
  isplitl [Ho1 Ht1 Ho1_dst]
  · iapply (outLane_give c Y o1 cc0_scratch13 1 (result X) h0 hk)
    isplitl [Ho1_dst]; · iexact Ho1_dst
    isplitl [Ho1]
    · iapply (outFlight_stored c X Y o1 cc0_scratch13 1 k.val (tripLast.sl.dma6 c X k g1)
      (read_stored (Val := Elt F) i1.view o1.view g1 inb_S512x2048_S512x2048_0_0 stepOf _ k0_pay3 pay_lane1)
        (o1.view.writes (Elt F) g1 (tripLast.sl.Ho1_src_1 c X k)))
      iexact Ho1
    iexact Ht1
  isplitl [Ho2 Ht2 Ho2_dst]
  · iapply (outLane_give c Y o2 cc0_scratch14 2 (result X) h0 hk)
    isplitl [Ho2_dst]; · iexact Ho2_dst
    isplitl [Ho2]
    · iapply (outFlight_stored c X Y o2 cc0_scratch14 2 k.val (tripLast.sl.dma9 c X k g2)
      (read_stored (Val := Elt F) i2.view o2.view g2 inb_S512x2048_S512x2048_0_0 stepOf _ (fun u => k0_pay5 u k0_pay4) pay_lane2)
        (o2.view.writes (Elt F) g2 (tripLast.sl.Ho2_src_1 c X k)))
      iexact Ho2
    iexact Ht2
  iapply (outLane_give c Y o3 cc0_scratch15 3 (result X) h0 hk)
  isplitl [Ho3_dst]; · iexact Ho3_dst
  isplitl [Ho3]
  · iapply (outFlight_stored c X Y o3 cc0_scratch15 3 k.val (tripLast.sl.dma12 c X k g3)
      (read_stored (Val := Elt F) i3.view o3.view g3 inb_S512x2048_S512x2048_0_0 stepOf _ (fun u => k0_pay1 (k0_pay6 u)) pay_lane3)
      (o3.view.writes (Elt F) g3 (tripLast.sl.Ho3_src_1 c X k)))
    iexact Ho3
  iexact Ht3

end Cert.Proof.Stream

end
-- ==== Proof.Stream.Body.lean ====
/-
  The kernel's body: the four lanes' first blocks asked for, the loop, and the last four blocks waited for. What each
  lane holds at the two ends of the loop comes first.
-/
module

public import proofs.«01_k».proof.Proof.Stream.Trip

@[expose] public section

noncomputable section

namespace Cert.Proof.Stream

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-! ## A lane at the ends of the loop -/

section Lane

variable (c : Dev nD) (X : Buf (Elt F) (aM.view.loc (c : Thread nD τ))) (Y : Buf (Elt F) (oM.view.loc (c : Thread nD τ)))
variable (M : Memref sig .tc .vmem S512x2048 .f32) (sm : DmaSems sig S_) (j : Fin 4)

/-- The lane's eight blocks of the argument, at home. -/
abbrev inAll : sProp 𝕄 := bigSep (Finset.univ : Finset (Fin 8)) (fun i => inP c X j i.val)
/-- The lane's eight blocks of the result, at the contents `Z`. -/
abbrev outAll (Z : Buf (Elt F) (oM.view.loc (c : Thread nD τ))) : sProp 𝕄 :=
  bigSep (Finset.univ : Finset (Fin 8)) (fun i => outP c j Z i.val)
/-- A lane's buffer at some contents and its semaphore at zero. -/
abbrev rest : sProp 𝕄 := iprop((∃ f, bufP c M f) ∗ cellP c sm)

/-- Before the loop the lane's first block is taken apart from the others. -/
theorem inAll_take : (inAll c X j : sProp 𝕄) ⊢ iprop(inP c X j 0 ∗ bigSep (Ring.rangeSet 8 1 8) (fun i => inP c X j i.val)) := by
  unfold inAll
  rw [← Ring.rangeSet_univ, Ring.bigSep_rangeSet_head (lo := 0) (hi := 8) (by decide) (by decide)]

/-- With the first block on its way the lane is ready for the first trip; -/
theorem inLane_zero :
    iprop((∃ f, inFlight c X M sm j 0 f) ∗ bigSep (Ring.rangeSet 8 1 8) (fun i => inP c X j i.val)) ⊢ (inLane c X M sm j 0 : sProp 𝕄) := by
  unfold inLane
  rw [if_pos (by decide), Ring.bigSep_rangeSet_empty (lo := 0) (hi := 0) (le_refl _)]
  iintro ⟨Hf, Hh⟩
  isplitr; · iempintro
  isplitl [Hh]; · iexact Hh
  iexact Hf

/-- after the last trip all its blocks are at home. -/
theorem inLane_eight : (inLane c X M sm j 8 : sProp 𝕄) ⊢ iprop(inAll c X j ∗ rest c M sm) := by
  unfold inLane inAll rest
  rw [if_neg (by decide), Ring.rangeSet_univ]
  iintro ⟨Ha, -, Hr⟩
  isplitl [Ha]; · iexact Ha
  iexact Hr

variable (G : Buf (Elt F) (oM.view.loc (c : Thread nD τ)))

/-- Before the loop none of the lane's blocks of the result is written. -/
theorem outLane_zero : iprop(outAll c j Y ∗ rest c M sm) ⊢ (outLane c Y M sm j G 0 : sProp 𝕄) := by
  unfold outLane outAll rest
  rw [if_neg (by decide), Ring.bigSep_rangeSet_empty (lo := 0) (hi := 0 - 1) (Nat.zero_le _), Ring.rangeSet_univ]
  iintro ⟨Ha, Hr⟩
  isplitr; · iempintro
  isplitl [Ha]; · iexact Ha
  iexact Hr

/-- After the last trip the last block is on its way out, the others written; -/
theorem outLane_eight : (outLane c Y M sm j G 8 : sProp 𝕄)
    ⊢ iprop((∃ f, outFlight c M sm j G 7 f) ∗ bigSep (Ring.rangeSet 8 0 7) (fun i => outP c j G i.val)) := by
  unfold outLane
  rw [if_pos (by decide)]
  iintro ⟨Ha, -, Hf⟩
  isplitl [Hf]; · iexact Hf
  iexact Ha

/-- and once it has arrived all are. -/
theorem outAll_give : iprop(outP c j G 7 ∗ bigSep (Ring.rangeSet 8 0 7) (fun i => outP c j G i.val)) ⊢ (outAll c j G : sProp 𝕄) := by
  unfold outAll
  rw [← Ring.rangeSet_univ, Ring.bigSep_rangeSet_last (lo := 0) (hi := 8) (by decide) (by decide)]

end Lane

/-! ## The loop -/

variable (c : Dev nD) (X : Buf (Elt F) (aM.view.loc (c : Thread nD τ))) (Y : Buf (Elt F) (oM.view.loc (c : Thread nD τ)))

/-- Any trip of the loop. -/
theorem trip (k : Fin k0_t1_loop.trips) :
    lanes c X Y k.val ⊢ wp frame (wpE (defs₀ (F := F)) 𝒱₀ (c : Thread nD τ) none) Set.univ (tripG (F := F) k)
      (fun _ => lanes c X Y (k.val + 1)) := by
  by_cases h0 : 0 < k.val
  · by_cases h7 : k.val + 1 < 8
    · exact tripMid c X Y k h0 h7
    · exact tripLast c X Y k h0 h7
  · exact tripFirst c X Y k h0 (by omega)

set_option warn.classDefReducibility false in
/-- The loop's invariant: what the four lanes hold before each trip. -/
def loopInv :
    LoopInvTy_k0_t1 (F := F) Unit ℕ (UU nD τ) ℕ 𝒱₀ c none Set.univ aM (Memref.isWhole_whole _) oM (Memref.isWhole_whole _)
      i0 (Memref.isWhole_whole _) i1 (Memref.isWhole_whole _) i2 (Memref.isWhole_whole _) i3 (Memref.isWhole_whole _)
      o0 (Memref.isWhole_whole _) o1 (Memref.isWhole_whole _) o2 (Memref.isWhole_whole _) o3 (Memref.isWhole_whole _)
      cc0_scratch8 cc0_scratch9 cc0_scratch10 cc0_scratch11 cc0_scratch12 cc0_scratch13 cc0_scratch14 cc0_scratch15 where
  inv k _ := lanes c X Y k
  step k _ := trip c X Y k

/-- After the last trip: every block of the argument at home, each lane's last block on its way out. -/
theorem lanes_end : (lanes c X Y k0_t1_loop.trips : sProp 𝕄)
    ⊢ iprop((∃ W, owes (c : Thread nD τ) 0 W)
      ∗ (inAll c X 0 ∗ rest c i0 cc0_scratch8) ∗ (inAll c X 1 ∗ rest c i1 cc0_scratch9)
      ∗ (inAll c X 2 ∗ rest c i2 cc0_scratch10) ∗ (inAll c X 3 ∗ rest c i3 cc0_scratch11)
      ∗ ((∃ f, outFlight c o0 cc0_scratch12 0 (result X) 7 f) ∗ bigSep (Ring.rangeSet 8 0 7) (fun i => outP c 0 (result X) i.val))
      ∗ ((∃ f, outFlight c o1 cc0_scratch13 1 (result X) 7 f) ∗ bigSep (Ring.rangeSet 8 0 7) (fun i => outP c 1 (result X) i.val))
      ∗ ((∃ f, outFlight c o2 cc0_scratch14 2 (result X) 7 f) ∗ bigSep (Ring.rangeSet 8 0 7) (fun i => outP c 2 (result X) i.val))
      ∗ ((∃ f, outFlight c o3 cc0_scratch15 3 (result X) 7 f) ∗ bigSep (Ring.rangeSet 8 0 7) (fun i => outP c 3 (result X) i.val))) := by
  rw [trips_eq]
  unfold lanes
  exact BI.sep_mono (entails_of_eq rfl) (BI.sep_mono (inLane_eight c X i0 cc0_scratch8 0) (BI.sep_mono (inLane_eight c X i1 cc0_scratch9 1) (BI.sep_mono (inLane_eight c X i2 cc0_scratch10 2) (BI.sep_mono (inLane_eight c X i3 cc0_scratch11 3) (BI.sep_mono (outLane_eight c Y o0 cc0_scratch12 0 (result X))
    (BI.sep_mono (outLane_eight c Y o1 cc0_scratch13 1 (result X))
    (BI.sep_mono (outLane_eight c Y o2 cc0_scratch14 2 (result X))
    (outLane_eight c Y o3 cc0_scratch15 3 (result X)))))))))

/-! ## The body -/

/-- The kernel's body on its own buffers. -/
abbrev bodyG : Prog (TpuEff nD τ sig (Elt F) Λ₀ .tc) PUnit :=
  cc0__stream_body aM (Memref.isWhole_whole _) oM (Memref.isWhole_whole _)
    i0 (Memref.isWhole_whole _) i1 (Memref.isWhole_whole _) i2 (Memref.isWhole_whole _) i3 (Memref.isWhole_whole _)
    o0 (Memref.isWhole_whole _) o1 (Memref.isWhole_whole _) o2 (Memref.isWhole_whole _) o3 (Memref.isWhole_whole _)
    cc0_scratch8 cc0_scratch9 cc0_scratch10 cc0_scratch11 cc0_scratch12 cc0_scratch13 cc0_scratch14 cc0_scratch15

/-- What the body holds outside its run: every block of both arrays, the result's at the contents `Z`, and every lane's
    buffers and semaphores at rest. -/
def atRest (Z : Buf (Elt F) (oM.view.loc (c : Thread nD τ))) : sProp 𝕄 :=
  iprop(inAll c X 0 ∗ inAll c X 1 ∗ inAll c X 2 ∗ inAll c X 3
    ∗ outAll c 0 Z ∗ outAll c 1 Z ∗ outAll c 2 Z ∗ outAll c 3 Z
    ∗ rest c i0 cc0_scratch8 ∗ rest c i1 cc0_scratch9 ∗ rest c i2 cc0_scratch10 ∗ rest c i3 cc0_scratch11
    ∗ rest c o0 cc0_scratch12 ∗ rest c o1 cc0_scratch13 ∗ rest c o2 cc0_scratch14 ∗ rest c o3 cc0_scratch15)

/-- The body takes the result's blocks from whatever they held to the result of the argument, and leaves everything else
    as it was. -/
theorem bodyRun (W : Waits sig Unit) (Q : PUnit → sProp 𝕄) :
    iprop((atRest c X Y ∗ owes (c : Thread nD τ) 0 W)
        ∗ ((atRest c X (result X) ∗ ∃ W, owes (c : Thread nD τ) 0 W) -∗ Q ⟨⟩))
      ⊢ wp frame (wpE (defs₀ (F := F)) 𝒱₀ (c : Thread nD τ) none) Set.univ (bodyG (F := F)) Q := by
  unfold atRest
  iintro ⟨⟨⟨Ha0, Ha1, Ha2, Ha3, Hb0, Hb1, Hb2, Hb3, ⟨⟨%f0, Hs0⟩, Hi0⟩, ⟨⟨%f1, Hs1⟩, Hi1⟩, ⟨⟨%f2, Hs2⟩, Hi2⟩, ⟨⟨%f3, Hs3⟩, Hi3⟩, Ho0, Ho1, Ho2, Ho3⟩, HW⟩, Hk⟩
  ihave H := (inAll_take c X 0) $$ Ha0
  icases H with ⟨Ha0, Hr0⟩
  ihave H := (inAll_take c X 1) $$ Ha1
  icases H with ⟨Ha1, Hr1⟩
  ihave H := (inAll_take c X 2) $$ Ha2
  icases H with ⟨Ha2, Hr2⟩
  ihave H := (inAll_take c X 3) $$ Ha3
  icases H with ⟨Ha3, Hr3⟩
  ihave Ho0 := (outLane_zero c Y o0 cc0_scratch12 0 (result X)) $$ [Hb0 Ho0]
  · isplitl [Hb0] <;> iassumption
  ihave Ho1 := (outLane_zero c Y o1 cc0_scratch13 1 (result X)) $$ [Hb1 Ho1]
  · isplitl [Hb1] <;> iassumption
  ihave Ho2 := (outLane_zero c Y o2 cc0_scratch14 2 (result X)) $$ [Hb2 Ho2]
  · isplitl [Hb2] <;> iassumption
  ihave Ho3 := (outLane_zero c Y o3 cc0_scratch15 3 (result X)) $$ [Hb3 Ho3]
  · isplitl [Hb3] <;> iassumption
  sl_exec
  ihave Hi0 := (inLane_zero c X i0 cc0_scratch8 0) $$ [Hi0 Hr0]
  · isplitl [Hi0]; · iexists f0; iexact Hi0
    iexact Hr0
  ihave Hi1 := (inLane_zero c X i1 cc0_scratch9 1) $$ [Hi1 Hr1]
  · isplitl [Hi1]; · iexists f1; iexact Hi1
    iexact Hr1
  ihave Hi2 := (inLane_zero c X i2 cc0_scratch10 2) $$ [Hi2 Hr2]
  · isplitl [Hi2]; · iexists f2; iexact Hi2
    iexact Hr2
  ihave Hi3 := (inLane_zero c X i3 cc0_scratch11 3) $$ [Hi3 Hr3]
  · isplitl [Hi3]; · iexists f3; iexact Hi3
    iexact Hr3
  iapply (exec_loop frame (wpE (defs₀ (F := F)) 𝒱₀ (c : Thread nD τ) none) Set.univ _ _ _ k0_t1_ok () _ (loopInv c X Y)) $$ [HW Hi0 Hi1 Hi2 Hi3 Ho0 Ho1 Ho2 Ho3]
  · iapply (show lanes c X Y 0 ⊢ (loopInv c X Y).inv 0 () from .rfl)
    unfold lanes
    isplitl [HW]; · iexists W; iexact HW
    isplitl [Hi0]; · iexact Hi0
    isplitl [Hi1]; · iexact Hi1
    isplitl [Hi2]; · iexact Hi2
    isplitl [Hi3]; · iexact Hi3
    isplitl [Ho0]; · iexact Ho0
    isplitl [Ho1]; · iexact Ho1
    isplitl [Ho2]; · iexact Ho2
    iexact Ho3
  iintro %_ H
  ihave H := (show (loopInv c X Y).inv (Scf.trips k0_t1_loop.lb k0_t1_loop.ub k0_t1_loop.st) _ ⊢ _ from lanes_end c X Y) $$ H
  icases H with ⟨⟨%W', HW⟩, ⟨Ha0, Hi0⟩, ⟨Ha1, Hi1⟩, ⟨Ha2, Hi2⟩, ⟨Ha3, Hi3⟩, ⟨⟨%g0, Ho0⟩, Hb0⟩, ⟨⟨%g1, Ho1⟩, Hb1⟩, ⟨⟨%g2, Ho2⟩, Hb2⟩, ⟨⟨%g3, Ho3⟩, Hb3⟩⟩
  sl_exec
  sl_step
  iapply Hk
  isplitr [HW]
  rotate_left
  · iexists _; iexact HW
  isplitl [Ha0]; · iexact Ha0
  isplitl [Ha1]; · iexact Ha1
  isplitl [Ha2]; · iexact Ha2
  isplitl [Ha3]; · iexact Ha3
  isplitl [Ho0_dst Hb0]
  · iapply (outAll_give c 0 (result X))
    isplitl [Ho0_dst]; · iexact Ho0_dst
    iexact Hb0
  isplitl [Ho1_dst Hb1]
  · iapply (outAll_give c 1 (result X))
    isplitl [Ho1_dst]; · iexact Ho1_dst
    iexact Hb1
  isplitl [Ho2_dst Hb2]
  · iapply (outAll_give c 2 (result X))
    isplitl [Ho2_dst]; · iexact Ho2_dst
    iexact Hb2
  isplitl [Ho3_dst Hb3]
  · iapply (outAll_give c 3 (result X))
    isplitl [Ho3_dst]; · iexact Ho3_dst
    iexact Hb3
  isplitl [Hi0]; · iexact Hi0
  isplitl [Hi1]; · iexact Hi1
  isplitl [Hi2]; · iexact Hi2
  isplitl [Hi3]; · iexact Hi3
  isplitl [Ho0_src Ho0]
  · isplitl [Ho0_src]; · iexists g0; iexact Ho0_src
    iexact Ho0
  isplitl [Ho1_src Ho1]
  · isplitl [Ho1_src]; · iexists g1; iexact Ho1_src
    iexact Ho1
  isplitl [Ho2_src Ho2]
  · isplitl [Ho2_src]; · iexists g2; iexact Ho2_src
    iexact Ho2
  isplitl [Ho3_src]; · iexists g3; iexact Ho3_src
  iexact Ho3

end Cert.Proof.Stream

end
-- ==== Proof.Stream.Launch.lean ====
/-
  The launch: both arrays are handed to the lanes block by block, the body runs once, and the blocks join back to the
  arrays. Every execution of the program ends with the argument as it was, the result computed from it, and every
  semaphore at zero.
-/
module

public import proofs.«01_k».proof.Proof.Stream.Body

@[expose] public section

noncomputable section

namespace Cert.Proof.Stream

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## The blocks make up the arrays -/

/-- The elements of a lane's block. -/
abbrev blkSet (b : Fin 4 × Fin 8) : Finset S16384x2048.Idx := (blkRect b.1 b.2.val).set

/-- An element lies in the block its row falls in. -/
theorem mem_blkSet (b : Fin 4 × Fin 8) (y : S16384x2048.Idx) : y ∈ blkSet b ↔ (y 0).val / 512 = 4 * b.2.val + b.1.val := by
  obtain ⟨j, n⟩ := b
  rw [Rect.mem_set_unit]
  have hj := j.isLt
  have hn : n.val % 8 = n.val := Nat.mod_eq_of_lt n.isLt
  have h1 : (y 1).val < 2048 := (y 1).isLt
  constructor
  · intro H
    have a0 : 2048 * (n.val % 8) + 512 * j.val ≤ (y 0).val ∧ (y 0).val < 2048 * (n.val % 8) + 512 * j.val + 512 := H 0
    show (y 0).val / 512 = 4 * n.val + j.val
    omega
  · intro H i
    have H' : (y 0).val / 512 = 4 * n.val + j.val := H
    fin_cases i
    · show 2048 * (n.val % 8) + 512 * j.val ≤ (y 0).val ∧ (y 0).val < 2048 * (n.val % 8) + 512 * j.val + 512; omega
    · show 0 ≤ (y 1).val ∧ (y 1).val < 0 + 2048; omega

/-- No element lies in two blocks, -/
theorem blkSet_disjoint : ∀ b b' : Fin 4 × Fin 8, b ≠ b' → Disjoint (blkSet b) (blkSet b') := by
  intro b b' hne
  rw [Finset.disjoint_left]
  intro y hy hy'
  rw [mem_blkSet] at hy hy'
  have := b.1.isLt
  have := b'.1.isLt
  exact hne (Prod.ext (Fin.ext (by omega)) (Fin.ext (by omega)))

/-- and every element lies in one. -/
theorem blkSet_cover : (Finset.univ : Finset (Fin 4 × Fin 8)).biUnion blkSet = Finset.univ := by
  ext y
  have h0 : (y 0).val < 16384 := (y 0).isLt
  simp only [Finset.mem_biUnion, Finset.mem_univ, true_and, iff_true]
  refine ⟨(⟨(y 0).val / 512 % 4, by omega⟩, ⟨(y 0).val / 512 / 4, by omega⟩), ?_⟩
  rw [mem_blkSet]
  show (y 0).val / 512 = 4 * ((y 0).val / 512 / 4) + (y 0).val / 512 % 4
  omega

/-- A block of the argument, as the program slices it, is the block's elements; -/
theorem ablk_set (j : Fin 4) (n : ℕ) : (ablk j n).view.set = (blkRect j n).set := View.set_slice_whole _ _
/-- so is one of the result. -/
theorem oblk_set (j : Fin 4) (n : ℕ) : (oblk j n).view.set = (blkRect j n).set := View.set_slice_whole _ _

omit [FloatOps F] in
/-- A product over the four lanes, spelt out. -/
theorem four_lanes (Ψ : Fin 4 → sProp 𝕄) : bigSep Finset.univ Ψ = iprop(Ψ 0 ∗ Ψ 1 ∗ Ψ 2 ∗ Ψ 3) :=
  bigSep_univ_eq_bigSepL [(0 : Fin 4), 1, 2, 3] (by decide) (by decide) Ψ

omit [FloatOps F] in
/-- The argument whole is the lanes' blocks of it; -/
theorem arg_blocks (c : Dev nD) (X : Buf (Elt F) ((c : Thread nD τ).loc main_arg0)) :
    (((c : Thread nD τ).loc main_arg0) ↦{fullShare} X : sProp 𝕄)
      = iprop(inAll c X 0 ∗ inAll c X 1 ∗ inAll c X 2 ∗ inAll c X 3) := by
  rw [Ring.pointsTo_blocks (ℓ := (c : Thread nD τ).loc main_arg0) blkSet blkSet_disjoint blkSet_cover, bigSep_univ_prod,
    ← four_lanes (fun j => inAll c X j)]
  exact bigSep_congr fun j _ => bigSep_congr fun n _ => congrArg (fun S => (((c : Thread nD τ).loc main_arg0) ↦[S]{fullShare} X : sProp 𝕄)) (ablk_set j n.val).symm

omit [FloatOps F] in
/-- so is the result. -/
theorem res_blocks (c : Dev nD) (Z : Buf (Elt F) ((c : Thread nD τ).loc main_v0)) :
    (((c : Thread nD τ).loc main_v0) ↦{fullShare} Z : sProp 𝕄)
      = iprop(outAll c 0 Z ∗ outAll c 1 Z ∗ outAll c 2 Z ∗ outAll c 3 Z) := by
  rw [Ring.pointsTo_blocks (ℓ := (c : Thread nD τ).loc main_v0) blkSet blkSet_disjoint blkSet_cover, bigSep_univ_prod,
    ← four_lanes (fun j => outAll c j Z)]
  exact bigSep_congr fun j _ => bigSep_congr fun n _ => congrArg (fun S => (((c : Thread nD τ).loc main_v0) ↦[S]{fullShare} Z : sProp 𝕄)) (oblk_set j n.val).symm

omit [FloatOps F] in
/-- A lane's buffer at some contents, whole. -/
theorem buf_whole (c : Dev nD) (b : Ref sig .tc) :
    (iprop(∃ f : Buf (Elt F) ((c : Thread nD τ).loc b), (Memref.whole b).view.loc (c : Thread nD τ) ↦[(Memref.whole b).view.set]{fullShare} f) : sProp 𝕄)
      = iprop(∃ f : Buf (Elt F) ((c : Thread nD τ).loc b), ((c : Thread nD τ).loc b) ↦{fullShare} f) := by
  rw [show (Memref.whole b).view.set = Finset.univ from View.set_whole b]

/-- The kernel's eight semaphores. -/
abbrev osem : Fin 8 → SemLoc sig := fun
  | 0 => .dma cc0_scratch8.sem | 1 => .dma cc0_scratch9.sem | 2 => .dma cc0_scratch10.sem | 3 => .dma cc0_scratch11.sem
  | 4 => .dma cc0_scratch12.sem | 5 => .dma cc0_scratch13.sem | 6 => .dma cc0_scratch14.sem | 7 => .dma cc0_scratch15.sem
/-- They are eight, no two alike, and none belongs to the launch itself. -/
theorem ownSemFacts : Pipeline.OwnSemFacts cfg0.spec osem := by decide

omit [FloatOps F] in
/-- All of them at zero is each of them at zero. -/
theorem ownSems0_eq (c : Dev nD) : (Pipeline.ownSems0 (Ix := Unit) (Name := ℕ) (U := UU nD τ) (Lvl := ℕ) (Val := Elt F) (τ := τ) osem c : sProp 𝕄)
    = iprop(cellP c cc0_scratch8 ∗ cellP c cc0_scratch9 ∗ cellP c cc0_scratch10 ∗ cellP c cc0_scratch11
      ∗ cellP c cc0_scratch12 ∗ cellP c cc0_scratch13 ∗ cellP c cc0_scratch14 ∗ cellP c cc0_scratch15) :=
  bigSep_univ_eq_bigSepL [(0 : Fin 8), 1, 2, 3, 4, 5, 6, 7] (by decide) (by decide) _

omit [FloatOps F] in
/-- What the launch hands over beside the arrays — the buffers and the semaphores — is what the lanes hold at rest. -/
theorem atRest_eq (c : Dev nD) (X : Buf (Elt F) ((c : Thread nD τ).loc main_arg0)) (Z : Buf (Elt F) ((c : Thread nD τ).loc main_v0)) :
    (atRest c X Z : sProp 𝕄)
      = iprop((((c : Thread nD τ).loc main_arg0) ↦{fullShare} X) ∗ (((c : Thread nD τ).loc main_v0) ↦{fullShare} Z)
        ∗ Pipeline.ownSems0 osem c ∗ Pipeline.scopedRest cfg0.spec c) := by
  rw [ownSems0_eq, scopedRest0_eq, arg_blocks, res_blocks]
  rw [← buf_whole c cc0_scratch0, ← buf_whole c cc0_scratch1, ← buf_whole c cc0_scratch2, ← buf_whole c cc0_scratch3,
    ← buf_whole c cc0_scratch4, ← buf_whole c cc0_scratch5, ← buf_whole c cc0_scratch6, ← buf_whole c cc0_scratch7]
  unfold atRest rest
  have h : ∀ P Q : sProp 𝕄, iprop(P ∗ Q) = Idealize.SL.BI.sep P Q := fun _ _ => rfl
  simp only [h]
  ac_rfl

/-! ## The run -/

section Run

variable (m : (ℓ : Loc nD τ sig) → Buf (Elt F) ℓ) (ρ : Dev nD → PrngReg)

/-- The argument and the result's array at launch. -/
abbrev X₀ (c : Dev nD) : Buf (Elt F) ((c : Thread nD τ).loc main_arg0) := m ((c : Thread nD τ).loc main_arg0)
abbrev Y₀ (c : Dev nD) : Buf (Elt F) ((c : Thread nD τ).loc main_v0) := m ((c : Thread nD τ).loc main_v0)

/-- The launch has no window and one point: before it the result's array is as launched, after it the result. -/
def dats (_ : Fin 1) (c : Dev nD) : Dat τ (Elt F) Unit ℕ (UU nD τ) ℕ cfg0 c where
  A w := w.elim0
  after w _ := w.elim0
  Φ t := if t.val = 0 then atRest c (X₀ m c) (Y₀ m c) else atRest c (X₀ m c) (result (X₀ m c))
  q _ := fullShare
  owed _ := 0

/-- Before the point the result's array is as launched; -/
theorem dats_before (c : Dev nD) (t : Fin (cfg0.N + 1)) (h : t.val = 0) : (dats m 0 c).Φ t = atRest c (X₀ m c) (Y₀ m c) := by
  dsimp only [dats]; exact if_pos h
/-- after it, the result. -/
theorem dats_after (c : Dev nD) (t : Fin (cfg0.N + 1)) (h : t.val ≠ 0) : (dats m 0 c).Φ t = atRest c (X₀ m c) (result (X₀ m c)) := by
  dsimp only [dats]; exact if_neg h

/-- The launch's body is the kernel's. -/
theorem defs_body : (defs₀ (F := F)) .tc cfg0.body = fun _ => bodyG (F := F) := rfl
/-- So is what it runs at its one point. -/
theorem prog_eq (t : Fin cfg0.N) : (defs₀ (F := F)) .tc cfg0.body (cfg0.bodyArgs t (cfg0.slots t)) = bodyG (F := F) :=
  (congrFun defs_body _).trans rfl

omit [FloatOps F] in
/-- A product over no windows. -/
theorem no_windows (Ψ : Fin 0 → sProp 𝕄) : bigSep Finset.univ Ψ = iprop(emp) := by
  rw [show (Finset.univ : Finset (Fin 0)) = ∅ from rfl, bigSep_empty]; rfl

set_option backward.isDefEq.respectTransparency.types false in
/-- The launch's one point is the body's run. -/
theorem body_obligation (c : Dev nD) : BodyObligation (dats m 0 c) (defs₀ (F := F)) 𝒱₀ () Set.univ := fun t => by
  have ht : t.val = 0 := by rw [fin_N0 t]; rfl
  rw [no_windows, no_windows]
  rw [dats_before m c t.castSucc ht, dats_after m c t.succ (Nat.succ_ne_zero t.val)]
  unfold Dat.owesAt Pipeline.owesWithin
  rw [show (dats m 0 c).owed t.castSucc = 0 from rfl, show (dats m 0 c).owed t.succ = 0 from rfl]
  iintro ⟨HR, ⟨%W, -, HW⟩, -⟩
  sl_rw [prog_eq t]
  iapply (bodyRun c (X₀ m c) (Y₀ m c) W)
  isplitl [HR HW]
  · isplitl [HR]; · iexact HR
    iexact HW
  iintro ⟨HR, ⟨%W', HW⟩⟩
  isplitl [HR]; · iexact HR
  isplitl [HW]
  · iexists W'
    isplitr; · ipureintro; exact fun _ _ => Or.inl trivial
    iexact HW
  iempintro

/-- What every execution ends with, on each core: the argument as it was and the result of it. -/
def QY (c : Dev nD) (s : MemSt nD τ sig (Elt F)) : Prop :=
  s.mem ((c : Thread nD τ).loc main_arg0) = X₀ m c ∧ s.mem ((c : Thread nD τ).loc main_v0) = result (X₀ m c)

/-- The two arrays, the result's at `Z`. -/
def arrays (c : Dev nD) (Z : Buf (Elt F) ((c : Thread nD τ).loc main_v0)) : sProp 𝕄 :=
  iprop((((c : Thread nD τ).loc main_arg0) ↦{fullShare} X₀ m c) ∗ (((c : Thread nD τ).loc main_v0) ↦{fullShare} Z))

set_option backward.isDefEq.respectTransparency.types false in
/-- From any memory with every counter at zero, for any float values, every execution of the program on the machine's
    cores ends, with the argument as it was, the result of it in the result's array, and every counter at zero. -/
theorem run_main : θ_run defs (onTc (τ := τ) (main (F := F))) ⟨m, fun _ => 0, ρ⟩
    (fun r => (∀ c : Dev nD, QY m c r.2) ∧ r.2.sem = fun _ => 0) :=
  Pipeline.θ_run_region_kit_quiescent cfgs (dats m) () (0 : Fin 1) launch0 ownSemFacts embL defs₀ 𝒱₀ m ρ main
    (hbody := fun c => (body_obligation m c).loose) (hshare := fun _ w => w.elim0)
    (howed := fun _ _ => rfl)
    (G := fun _ => iprop(emp))
    (u₀ := (initOf (Pipeline.cells cfgs Cert.KernelIdeal.Gen.cellOf_inj) (Pipeline.launchToks cfgs Cert.KernelIdeal.Gen.cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ w => w.elim0)
    (X := fun c => iprop(arrays m c (Y₀ m c) ∗ Pipeline.ownSems0 osem c)) (Y := fun c => arrays m c (result (X₀ m c)))
    (Z := fun _ => iprop(emp))
    (hX := fun c => by
      rw [unscopedRest0_eq]
      unfold arrays
      iintro ⟨⟨HA, HB⟩, HS, -, -, -⟩; imodintro
      isplitl [HA HB HS]
      · isplitl [HA HB]
        · isplitl [HA]; · iexact HA
          iexact HB
        iexact HS
      iempintro)
    (hin := fun c => by
      rw [dats_before m c 0 rfl, atRest_eq]
      unfold arrays
      iintro ⟨⟨⟨HA, HB⟩, HS⟩, HR⟩
      isplitl [HA]; · iexact HA
      isplitl [HB]; · iexact HB
      isplitl [HS]; · iexact HS
      iexact HR)
    (hout := fun c => by
      rw [dats_after m c (Fin.last cfg0.N) (by rw [Fin.val_last]; exact ne_of_eq_of_ne N_0 Nat.one_ne_zero), atRest_eq]
      unfold arrays
      iintro ⟨HA, HB, HS, HR⟩
      isplitl [HA HB]
      · isplitl [HA]; · iexact HA
        iexact HB
      isplitl [HS]; · iexact HS
      iexact HR)
    (QY := QY m)
    (hY := fun c s' => by
      unfold arrays QY
      iintro ⟨⟨HA, HB⟩, -, HSI⟩
      icombine HSI HA gives %ha
      icombine HSI HB gives %hb
      imodintro
      isplitr; · ipureintro; exact ⟨Buf.eq_of_forall_mem_univ ha, Buf.eq_of_forall_mem_univ hb⟩
      iexact HSI)
    (hQ := fun _ hh hz => ⟨fun c => (hh c).2, hz⟩)

end Run

end Cert.Proof.Stream

end
-- ==== Proof.Stream.Value.lean ====
/-
  The value: over the extended reals the kernel's two selects and the reference's product and quotient give the same
  number at every element.
-/
module

public import proofs.«01_k».proof.Proof.Stream.Launch
public import proofs.«01_k».proof.Proof.Gen.ReferenceIdeal.Run
public import Idealize.ShloMosaic.Lib.IdealHost

@[expose] public section

noncomputable section

namespace Cert.Proof.Stream

open Idealize.ShloMosaic Idealize.ShloMosaic.TcCoe Idealize.SL.Sem

/-! ## The four constants -/

/-- The word of one half is one half. -/
theorem word_half : Ideal.ofBits .f32 0x3F000000#32 = (((1 : ℝ) / 2 : ℝ) : EReal) := by
  simp [Ideal.ofBits, Ideal.ieee, -EReal.coe_mul]; norm_num

/-- The word of two is two. -/
theorem word_two : Ideal.ofBits .f32 0x40000000#32 = ((2 : ℝ) : EReal) := by
  simp [Ideal.ofBits, Ideal.ieee, -EReal.coe_mul]; norm_num

/-- The word of minus one is minus one. -/
theorem word_neg_one : Ideal.ofBits .f32 0xBF800000#32 = ((-1 : ℝ) : EReal) := by
  simp [Ideal.ofBits, Ideal.ieee, -EReal.coe_mul, -EReal.coe_neg]; norm_num

/-- One over one half is two. -/
theorem one_div_half : Ideal.div 1 (((1 : ℝ) / 2 : ℝ) : EReal) = ((2 : ℝ) : EReal) := by
  have h : (((1 : ℝ) / 2 : ℝ) : EReal) ≠ 0 := by
    rw [← EReal.coe_zero, Ne, EReal.coe_eq_coe_iff]; norm_num
  rw [Ideal.div, if_neg h, one_mul, ← EReal.coe_inv]
  norm_num

/-- Minus one is not one. -/
theorem neg_one_ne_one : ((-1 : ℝ) : EReal) ≠ 1 := by
  rw [← EReal.coe_one, Ne, EReal.coe_eq_coe_iff]; norm_num

/-! ## One element -/

/-- A choice by an equality test is the choice by the equality. -/
theorem select_oeq (x y a b : EReal) :
    Scalar.select (FloatOps.cmpf (F := Ideal) (φ := .f32) .oeq x y) a b = if x = y then a else b := by
  show (if BitVec.ofBool (decide (x = y)) = 1 then a else b) = _
  by_cases h : x = y <;> simp [h]

/-- The reference at one element: one halved where the element is one, then doubled by a quotient where it is minus
    one. -/
def refStep (x : EReal) : EReal :=
  if x = ((-1 : ℝ) : EReal) then Ideal.div (if x = 1 then 1 * (((1 : ℝ) / 2 : ℝ) : EReal) else 1) (((1 : ℝ) / 2 : ℝ) : EReal)
  else if x = 1 then 1 * (((1 : ℝ) / 2 : ℝ) : EReal) else 1

/-- The kernel's value at an element is the reference's. -/
theorem stepOf_eq (x : EReal) : stepOf (F := Ideal) x = refStep x := by
  unfold stepOf refStep
  rw [select_oeq, select_oeq]
  show (if x = Ideal.ofBits .f32 0xBF800000#32 then Ideal.ofBits .f32 0x40000000#32
    else if x = Ideal.ofBits .f32 0x3F800000#32 then Ideal.ofBits .f32 0x3F000000#32 else Ideal.ofBits .f32 0x3F800000#32) = _
  rw [word_neg_one, word_two, word_half, Ideal.ofBits_one_f32, one_mul]
  by_cases h : x = ((-1 : ℝ) : EReal)
  · rw [if_pos h, if_pos h, if_neg (h ▸ neg_one_ne_one), one_div_half]
  · rw [if_neg h, if_neg h]

/-! ## The reference's run -/

section Reference

open Cert.ReferenceIdeal Cert.ReferenceIdeal.Gen

/-- A scalar constant over the whole array. -/
abbrev splat (w : BitVec 32) : FVec Ideal S16384x2048 .f32 := broadcastInDim S16384x2048 ![] bcast_S_S16384x2048 (constant (F := Ideal) S_ .f32 w)

/-- The reference's first choice: one halved where the argument is one. -/
abbrev halved (X : FVec Ideal S16384x2048 .f32) : FVec Ideal S16384x2048 .f32 :=
  select (cmpf .oeq X (splat 0x3F800000#32)) (mulf (splat 0x3F800000#32) (splat 0x3F000000#32)) (splat 0x3F800000#32)

/-- The reference's operations on whole arrays are, at each element, the value above. -/
theorem ref_result (X : FVec Ideal S16384x2048 .f32) :
    select (cmpf .oeq X (splat 0xBF800000#32)) (Host.divf (halved X) (splat 0x3F000000#32)) (halved X) = fun y => refStep (X y) := by
  funext y
  show Scalar.select (FloatOps.cmpf (F := Ideal) (φ := .f32) .oeq (X y) (Ideal.ofBits .f32 0xBF800000#32))
      (Ideal.div (Scalar.select (FloatOps.cmpf (F := Ideal) (φ := .f32) .oeq (X y) (Ideal.ofBits .f32 0x3F800000#32))
          (Ideal.ofBits .f32 0x3F800000#32 * Ideal.ofBits .f32 0x3F000000#32) (Ideal.ofBits .f32 0x3F800000#32))
        (Ideal.ofBits .f32 0x3F000000#32))
      (Scalar.select (FloatOps.cmpf (F := Ideal) (φ := .f32) .oeq (X y) (Ideal.ofBits .f32 0x3F800000#32))
          (Ideal.ofBits .f32 0x3F800000#32 * Ideal.ofBits .f32 0x3F000000#32) (Ideal.ofBits .f32 0x3F800000#32)) = _
  rw [select_oeq, select_oeq, word_neg_one, word_half, Ideal.ofBits_one_f32]
  rfl

/-- From any memory, every execution of the reference ends with its argument as it was and, in the result's array, the
    value above of each element. -/
theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v10) = (fun y => refStep (m ((c.tc : Thread nD τ).loc main_arg0) y))
      ∧ r.2.mem ((c.tc : Thread nD τ).loc main_arg0) = m ((c.tc : Thread nD τ).loc main_arg0) :=
  (θ_run (defs (F := Ideal)) _ _).mono (fun _ h c => ⟨(h c).1.trans (ref_result _), (h c).2⟩) (Cert.ReferenceIdeal.Value.run m ρ)

end Reference

end Cert.Proof.Stream

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Stream.Launch
public import proofs.«01_k».proof.Proof.Stream.Value

@[expose] public section

noncomputable section

namespace Cert.Proof

open Idealize.ShloMosaic Idealize.ShloMosaic.TcCoe Idealize.SL.Sem Cert.Proof.Stream

/-- The kernel runs at the machine's words: it leaves its argument as it was and every counter at zero. -/
theorem frame_kernel : Cert.quiescent_Kernel := fun m ρ _ =>
  (θ_run (Cert.KernelIdeal.defs (F := Bits)) _ _).mono (fun _ h => ⟨fun c => (h.1 c).1, h.2⟩) (run_main (F := Bits) m ρ)

/-- The same at the extended reals. -/
theorem frame_kernelIdeal : Cert.quiescent_KernelIdeal := fun m ρ _ =>
  (θ_run (Cert.KernelIdeal.defs (F := Ideal)) _ _).mono (fun _ h => ⟨fun c => (h.1 c).1, h.2⟩) (run_main (F := Ideal) m ρ)

/-- The reference runs, leaves its argument as it was, and has no counter. -/
theorem frame_referenceIdeal : Cert.quiescent_ReferenceIdeal := fun m ρ _ =>
  (θ_run (Cert.ReferenceIdeal.defs (F := Ideal)) _ _).mono
    (fun r h => ⟨fun c => (h c).2, sem_eq_zero_of_no_sems (by decide) r.2⟩) (run_reference m ρ)

/-- From equal arguments the kernel and the reference end with equal results. -/
theorem values_agree : Cert.algebraic_KernelIdeal_ReferenceIdeal := fun m ρ m' ρ' _ hm =>
  ⟨fun c => result (F := Ideal) (X₀ (F := Ideal) m c),
    (θ_run (Cert.KernelIdeal.defs (F := Ideal)) _ _).mono (fun _ h c => ⟨(h.1 c).2, (h.1 c).1⟩) (run_main (F := Ideal) m ρ),
    (θ_run (Cert.ReferenceIdeal.defs (F := Ideal)) _ _).mono
      (fun _ h c => ⟨(h c).1.trans (by
        rw [hm c]
        exact funext fun y => (stepOf_eq _).symm), (h c).2⟩) (run_reference m' ρ')⟩

/-- All five claims. -/
theorem claim : Cert.Claim :=
  ⟨Cert.Kernel.Gen.facts, Cert.KernelIdeal.Gen.facts, Cert.ReferenceIdeal.Gen.facts,
    frame_kernel, frame_kernelIdeal, frame_referenceIdeal, trivial, values_agree⟩

end Cert.Proof

end
